-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)) (v3 : (c : Dev Cert.KernelIdeal.nD) → Buf (Elt Ideal) ((c.tc : Thread Cert.KernelIdeal.nD Cert.KernelIdeal.τ).loc Cert.KernelIdeal.main_v23_3)) (v4 : (c : Dev Cert.KernelIdeal.nD) → Buf (Elt Ideal) ((c.tc : Thread Cert.KernelIdeal.nD Cert.KernelIdeal.τ).loc Cert.KernelIdeal.main_v23_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_v23_3) = v3 c
          ∧ r.2.mem ((c.tc : Thread Cert.KernelIdeal.nD Cert.KernelIdeal.τ).loc Cert.KernelIdeal.main_v23_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_v144) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_v145) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8x90x360x192 : Shape := ⟨5, ![1, 8, 90, 360, 192]⟩
abbrev S8x90x192x360 : Shape := ⟨4, ![8, 90, 192, 360]⟩
abbrev S90x8x360 : Shape := ⟨3, ![90, 8, 360]⟩
abbrev S6x32x192 : Shape := ⟨3, ![6, 32, 192]⟩
abbrev S192 : Shape := ⟨1, ![192]⟩
abbrev S192x768 : Shape := ⟨2, ![192, 768]⟩
abbrev S768 : Shape := ⟨1, ![768]⟩
abbrev S768x192 : Shape := ⟨2, ![768, 192]⟩
abbrev S8x90x360x192 : Shape := ⟨4, ![8, 90, 360, 192]⟩
abbrev S192x192 : Shape := ⟨2, ![192, 192]⟩
abbrev S192x1 : Shape := ⟨2, ![192, 1]⟩
abbrev S192x128 : Shape := ⟨2, ![192, 128]⟩
abbrev S1x768 : Shape := ⟨2, ![1, 768]⟩
abbrev S8x90x360x768 : Shape := ⟨4, ![8, 90, 360, 768]⟩
abbrev S8x1x192x360 : Shape := ⟨4, ![8, 1, 192, 360]⟩
abbrev S1x8x360 : Shape := ⟨3, ![1, 8, 360]⟩
abbrev S8x1x360x768 : Shape := ⟨4, ![8, 1, 360, 768]⟩
abbrev S1x1x192x360 : Shape := ⟨4, ![1, 1, 192, 360]⟩
abbrev S192x360 : Shape := ⟨2, ![192, 360]⟩
abbrev S1x1x360 : Shape := ⟨3, ![1, 1, 360]⟩
abbrev S1x360 : Shape := ⟨2, ![1, 360]⟩
abbrev S360 : Shape := ⟨1, ![360]⟩
abbrev S360x768 : Shape := ⟨2, ![360, 768]⟩
abbrev S8x360 : Shape := ⟨2, ![8, 360]⟩
abbrev S360x8 : Shape := ⟨2, ![360, 8]⟩
abbrev S360x1 : Shape := ⟨2, ![360, 1]⟩
abbrev S1x1x360x768 : Shape := ⟨4, ![1, 1, 360, 768]⟩
abbrev S360x128 : Shape := ⟨2, ![360, 128]⟩
abbrev S128x360 : Shape := ⟨2, ![128, 360]⟩

abbrev nBuf : Space → Nat
  | .hbm => 44
  | .vmem => 29
  | .smem => 0
  | _ => 0

abbrev bufTy : (tb : Table) → Fin (tcTables nBuf tb) → BufTy
  | .hbm, ⟨0, _⟩ => ⟨S1x8x90x360x192, .bf16⟩
  | .hbm, ⟨1, _⟩ => ⟨S8x90x192x360, .i8⟩
  | .hbm, ⟨2, _⟩ => ⟨S90x8x360, .f32⟩
  | .hbm, ⟨3, _⟩ => ⟨S6x32x192, .i8⟩
  | .hbm, ⟨4, _⟩ => ⟨S192, .f32⟩
  | .hbm, ⟨5, _⟩ => ⟨S192, .f32⟩
  | .hbm, ⟨6, _⟩ => ⟨S192x768, .i8⟩
  | .hbm, ⟨7, _⟩ => ⟨S768, .f32⟩
  | .hbm, ⟨8, _⟩ => ⟨S768, .f32⟩
  | .hbm, ⟨9, _⟩ => ⟨S768x192, .i8⟩
  | .hbm, ⟨10, _⟩ => ⟨S192, .f32⟩
  | .hbm, ⟨11, _⟩ => ⟨S192, .f32⟩
  | .hbm, ⟨12, _⟩ => ⟨S192, .f32⟩
  | .hbm, ⟨13, _⟩ => ⟨S192, .f32⟩
  | .hbm, ⟨14, _⟩ => ⟨S192, .f32⟩
  | .hbm, ⟨15, _⟩ => ⟨S192, .f32⟩
  | .hbm, ⟨16, _⟩ => ⟨S8x90x360x192, .bf16⟩
  | .hbm, ⟨17, _⟩ => ⟨S8x90x192x360, .bf16⟩
  | .hbm, ⟨18, _⟩ => ⟨S192x192, .i8⟩
  | .hbm, ⟨19, _⟩ => ⟨S192x192, .i8⟩
  | .hbm, ⟨20, _⟩ => ⟨S192x1, .f32⟩
  | .hbm, ⟨21, _⟩ => ⟨S192x128, .f32⟩
  | .hbm, ⟨22, _⟩ => ⟨S192x1, .f32⟩
  | .hbm, ⟨23, _⟩ => ⟨S192x128, .f32⟩
  | .hbm, ⟨24, _⟩ => ⟨S1x768, .f32⟩
  | .hbm, ⟨25, _⟩ => ⟨S1x768, .f32⟩
  | .hbm, ⟨26, _⟩ => ⟨S192x768, .i8⟩
  | .hbm, ⟨27, _⟩ => ⟨S192x1, .f32⟩
  | .hbm, ⟨28, _⟩ => ⟨S192x128, .f32⟩
  | .hbm, ⟨29, _⟩ => ⟨S192x1, .f32⟩
  | .hbm, ⟨30, _⟩ => ⟨S192x128, .f32⟩
  | .hbm, ⟨31, _⟩ => ⟨S192x1, .f32⟩
  | .hbm, ⟨32, _⟩ => ⟨S192x128, .f32⟩
  | .hbm, ⟨33, _⟩ => ⟨S192x1, .f32⟩
  | .hbm, ⟨34, _⟩ => ⟨S192x128, .f32⟩
  | .hbm, ⟨35, _⟩ => ⟨S192x1, .f32⟩
  | .hbm, ⟨36, _⟩ => ⟨S192x128, .f32⟩
  | .hbm, ⟨37, _⟩ => ⟨S192x1, .f32⟩
  | .hbm, ⟨38, _⟩ => ⟨S192x128, .f32⟩
  | .hbm, ⟨39, _⟩ => ⟨S8x90x192x360, .bf16⟩
  | .hbm, ⟨40, _⟩ => ⟨S8x90x192x360, .i8⟩
  | .hbm, ⟨41, _⟩ => ⟨S90x8x360, .f32⟩
  | .hbm, ⟨42, _⟩ => ⟨S8x90x360x768, .i8⟩
  | .hbm, ⟨43, _⟩ => ⟨S90x8x360, .f32⟩
  | .local _ .vmem, ⟨0, _⟩ => ⟨S8x1x192x360, .bf16⟩
  | .local _ .vmem, ⟨1, _⟩ => ⟨S8x1x192x360, .bf16⟩
  | .local _ .vmem, ⟨2, _⟩ => ⟨S8x1x192x360, .i8⟩
  | .local _ .vmem, ⟨3, _⟩ => ⟨S8x1x192x360, .i8⟩
  | .local _ .vmem, ⟨4, _⟩ => ⟨S1x8x360, .f32⟩
  | .local _ .vmem, ⟨5, _⟩ => ⟨S1x8x360, .f32⟩
  | .local _ .vmem, ⟨6, _⟩ => ⟨S192x192, .i8⟩
  | .local _ .vmem, ⟨7, _⟩ => ⟨S192x128, .f32⟩
  | .local _ .vmem, ⟨8, _⟩ => ⟨S192x128, .f32⟩
  | .local _ .vmem, ⟨9, _⟩ => ⟨S192x768, .i8⟩
  | .local _ .vmem, ⟨10, _⟩ => ⟨S1x768, .f32⟩
  | .local _ .vmem, ⟨11, _⟩ => ⟨S1x768, .f32⟩
  | .local _ .vmem, ⟨12, _⟩ => ⟨S192x768, .i8⟩
  | .local _ .vmem, ⟨13, _⟩ => ⟨S192x128, .f32⟩
  | .local _ .vmem, ⟨14, _⟩ => ⟨S192x128, .f32⟩
  | .local _ .vmem, ⟨15, _⟩ => ⟨S192x128, .f32⟩
  | .local _ .vmem, ⟨16, _⟩ => ⟨S192x128, .f32⟩
  | .local _ .vmem, ⟨17, _⟩ => ⟨S192x128, .f32⟩
  | .local _ .vmem, ⟨18, _⟩ => ⟨S192x128, .f32⟩
  | .local _ .vmem, ⟨19, _⟩ => ⟨S8x1x192x360, .bf16⟩
  | .local _ .vmem, ⟨20, _⟩ => ⟨S8x1x192x360, .bf16⟩
  | .local _ .vmem, ⟨21, _⟩ => ⟨S8x1x192x360, .i8⟩
  | .local _ .vmem, ⟨22, _⟩ => ⟨S8x1x192x360, .i8⟩
  | .local _ .vmem, ⟨23, _⟩ => ⟨S1x8x360, .f32⟩
  | .local _ .vmem, ⟨24, _⟩ => ⟨S1x8x360, .f32⟩
  | .local _ .vmem, ⟨25, _⟩ => ⟨S8x1x360x768, .i8⟩
  | .local _ .vmem, ⟨26, _⟩ => ⟨S8x1x360x768, .i8⟩
  | .local _ .vmem, ⟨27, _⟩ => ⟨S1x8x360, .f32⟩
  | .local _ .vmem, ⟨28, _⟩ => ⟨S1x8x360, .f32⟩
  | _, _ => ⟨S1x8x90x360x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23_0 : Ref sig .tc := ⟨.hbm, 39, rfl⟩
abbrev main_v23_1 : Ref sig .tc := ⟨.hbm, 40, rfl⟩
abbrev main_v23_2 : Ref sig .tc := ⟨.hbm, 41, rfl⟩
abbrev main_v23_3 : Ref sig .tc := ⟨.hbm, 42, rfl⟩
abbrev main_v23_4 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28

abbrev nD : Nat := 1
abbrev τ : Topo := Topo.v7x

variable {F : FTy → Type} [FloatOps F]

abbrev grid0 : Pipeline.Grid := ⟨1, ![90], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_off1 (k0_t1 : Fin k0_t1_loop.trips) : Fin 4 → Nat :=
  let c0_i32 : BitVec 32 := 0#32
  let c1_i32 : BitVec 32 := 1#32
  let arg22 : BitVec 32 := Scf.iv c0_i32 c1_i32 k0_t1
  let v1 : Index := Scalar.indexCast arg22
  let c0 : Index := 0#32
  let c0_1 : Index := 0#32
  let c0_2 : Index := 0#32
  ![v1.toNat, 0, 0, 0]
def k0_off2 (k0_t1 : Fin k0_t1_loop.trips) : Fin 3 → Nat :=
  let c0_3 : Index := 0#32
  let c0_i32 : BitVec 32 := 0#32
  let c1_i32 : BitVec 32 := 1#32
  let arg22 : BitVec 32 := Scf.iv c0_i32 c1_i32 k0_t1
  let v5 : Index := Scalar.indexCast arg22
  let c0_4 : Index := 0#32
  ![0, v5.toNat, 0]
def k0_off3 (k0_t1 : Fin k0_t1_loop.trips) : Fin 4 → Nat :=
  let c0_i32 : BitVec 32 := 0#32
  let c1_i32 : BitVec 32 := 1#32
  let arg22 : BitVec 32 := Scf.iv c0_i32 c1_i32 k0_t1
  let v123 : Index := Scalar.indexCast arg22
  let c0_52 : Index := 0#32
  let c0_53 : Index := 0#32
  let c0_54 : Index := 0#32
  ![v123.toNat, 0, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1x192x360 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x192x360 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x360 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S192x192 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S192x768 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S192x768 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S192x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S192x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S192x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S192x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S192x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S192x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S8x1x192x360 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x1x192x360 .i8 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x8x360 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S8x1x360x768 .i8 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x8x360 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ReferenceIdeal.lean ====
abbrev S1x8x90x360x192 : Shape := ⟨5, ![1, 8, 90, 360, 192]⟩
abbrev S8x90x192x360 : Shape := ⟨4, ![8, 90, 192, 360]⟩
abbrev S90x8x360 : Shape := ⟨3, ![90, 8, 360]⟩
abbrev S6x32x192 : Shape := ⟨3, ![6, 32, 192]⟩
abbrev S192 : Shape := ⟨1, ![192]⟩
abbrev S192x768 : Shape := ⟨2, ![192, 768]⟩
abbrev S768 : Shape := ⟨1, ![768]⟩
abbrev S768x192 : Shape := ⟨2, ![768, 192]⟩
abbrev S8x90x360x192 : Shape := ⟨4, ![8, 90, 360, 192]⟩
abbrev S8x90x360 : Shape := ⟨3, ![8, 90, 360]⟩
abbrev S192x192 : Shape := ⟨2, ![192, 192]⟩
abbrev S8x90x360x1 : Shape := ⟨4, ![8, 90, 360, 1]⟩
abbrev S1x1x1x192 : Shape := ⟨4, ![1, 1, 1, 192]⟩
abbrev S_ : Shape := ⟨0, ![]⟩
abbrev S8x90x360x768 : Shape := ⟨4, ![8, 90, 360, 768]⟩
abbrev S1x1x1x768 : Shape := ⟨4, ![1, 1, 1, 768]⟩

abbrev nBuf : Space → Nat
  | .hbm => 201
  | .vmem => 0
  | .smem => 0
  | _ => 0

abbrev hbmTy0_0 (i : Nat) : BufTy := match i % 128 with
  | 0 => ⟨S1x8x90x360x192, .bf16⟩
  | 1 => ⟨S8x90x192x360, .i8⟩
  | 2 => ⟨S90x8x360, .f32⟩
  | 3 => ⟨S6x32x192, .i8⟩
  | 4 => ⟨S192, .f32⟩
  | 5 => ⟨S192, .f32⟩
  | 6 => ⟨S192x768, .i8⟩
  | 7 => ⟨S768, .f32⟩
  | 8 => ⟨S768, .f32⟩
  | 9 => ⟨S768x192, .i8⟩
  | 10 => ⟨S192, .f32⟩
  | 11 => ⟨S192, .f32⟩
  | 12 => ⟨S192, .f32⟩
  | 13 => ⟨S192, .f32⟩
  | 14 => ⟨S192, .f32⟩
  | 15 => ⟨S192, .f32⟩
  | 16 => ⟨S8x90x360x192, .i8⟩
  | 17 => ⟨S8x90x360, .f32⟩
  | 18 => ⟨S192x192, .i8⟩
  | 19 => ⟨S8x90x360x192, .i32⟩
  | 20 => ⟨S8x90x360x192, .f32⟩
  | 21 => ⟨S8x90x360x192, .bf16⟩
  | 22 => ⟨S192x192, .i32⟩
  | 23 => ⟨S192x192, .f32⟩
  | 24 => ⟨S192x192, .bf16⟩
  | 25 => ⟨S8x90x360x192, .f32⟩
  | 26 => ⟨S8x90x360x1, .f32⟩
  | 27 => ⟨S8x90x360x192, .f32⟩
  | 28 => ⟨S8x90x360x192, .f32⟩
  | 29 => ⟨S1x1x1x192, .f32⟩
  | 30 => ⟨S8x90x360x192, .f32⟩
  | 31 => ⟨S8x90x360x192, .f32⟩
  | 32 => ⟨S1x1x1x192, .f32⟩
  | 33 => ⟨S8x90x360x192, .f32⟩
  | 34 => ⟨S8x90x360x192, .f32⟩
  | 35 => ⟨S8x90x360x192, .bf16⟩
  | 36 => ⟨S8x90x360x192, .f32⟩
  | 37 => ⟨S_, .f32⟩
  | 38 => ⟨S8x90x360, .f32⟩
  | 39 => ⟨S8x90x360x1, .f32⟩
  | 40 => ⟨S_, .f32⟩
  | 41 => ⟨S8x90x360x1, .f32⟩
  | 42 => ⟨S8x90x360x1, .f32⟩
  | 43 => ⟨S8x90x360x192, .f32⟩
  | 44 => ⟨S8x90x360x192, .f32⟩
  | 45 => ⟨S8x90x360x192, .f32⟩
  | 46 => ⟨S_, .f32⟩
  | 47 => ⟨S8x90x360, .f32⟩
  | 48 => ⟨S8x90x360x1, .f32⟩
  | 49 => ⟨S_, .f32⟩
  | 50 => ⟨S8x90x360x1, .f32⟩
  | 51 => ⟨S8x90x360x1, .f32⟩
  | 52 => ⟨S8x90x360x192, .f32⟩
  | 53 => ⟨S8x90x360x192, .f32⟩
  | 54 => ⟨S_, .f32⟩
  | 55 => ⟨S8x90x360x1, .f32⟩
  | 56 => ⟨S8x90x360x1, .f32⟩
  | 57 => ⟨S8x90x360x1, .f32⟩
  | 58 => ⟨S8x90x360x192, .f32⟩
  | 59 => ⟨S8x90x360x192, .f32⟩
  | 60 => ⟨S1x1x1x192, .f32⟩
  | 61 => ⟨S8x90x360x192, .f32⟩
  | 62 => ⟨S8x90x360x192, .f32⟩
  | 63 => ⟨S1x1x1x192, .f32⟩
  | 64 => ⟨S8x90x360x192, .f32⟩
  | 65 => ⟨S8x90x360x192, .f32⟩
  | 66 => ⟨S8x90x360x192, .f32⟩
  | 67 => ⟨S8x90x360x192, .f32⟩
  | 68 => ⟨S_, .f32⟩
  | 69 => ⟨S8x90x360, .f32⟩
  | 70 => ⟨S8x90x360x1, .f32⟩
  | 71 => ⟨S_, .f32⟩
  | 72 => ⟨S8x90x360x1, .f32⟩
  | 73 => ⟨S8x90x360x1, .i1⟩
  | 74 => ⟨S_, .f32⟩
  | 75 => ⟨S8x90x360x1, .f32⟩
  | 76 => ⟨S8x90x360x1, .f32⟩
  | 77 => ⟨S_, .f32⟩
  | 78 => ⟨S_, .f32⟩
  | 79 => ⟨S8x90x360x1, .f32⟩
  | 80 => ⟨S8x90x360x1, .f32⟩
  | 81 => ⟨S8x90x360x192, .f32⟩
  | 82 => ⟨S8x90x360x192, .f32⟩
  | 83 => ⟨S8x90x360x192, .f32⟩
  | 84 => ⟨S_, .f32⟩
  | 85 => ⟨S_, .f32⟩
  | 86 => ⟨S_, .f32⟩
  | 87 => ⟨S8x90x360x192, .f32⟩
  | 88 => ⟨S8x90x360x192, .f32⟩
  | 89 => ⟨S_, .f32⟩
  | 90 => ⟨S8x90x360x192, .f32⟩
  | 91 => ⟨S8x90x360x192, .f32⟩
  | 92 => ⟨S8x90x360x192, .i32⟩
  | 93 => ⟨S8x90x360x192, .i8⟩
  | 94 => ⟨S8x90x360, .f32⟩
  | 95 => ⟨S8x90x360x192, .i32⟩
  | 96 => ⟨S8x90x360x192, .f32⟩
  | 97 => ⟨S8x90x360x192, .bf16⟩
  | 98 => ⟨S192x768, .i32⟩
  | 99 => ⟨S192x768, .f32⟩
  | 100 => ⟨S192x768, .bf16⟩
  | 101 => ⟨S8x90x360x768, .f32⟩
  | 102 => ⟨S8x90x360x1, .f32⟩
  | 103 => ⟨S8x90x360x768, .f32⟩
  | 104 => ⟨S8x90x360x768, .f32⟩
  | 105 => ⟨S1x1x1x768, .f32⟩
  | 106 => ⟨S8x90x360x768, .f32⟩
  | 107 => ⟨S8x90x360x768, .f32⟩
  | 108 => ⟨S1x1x1x768, .f32⟩
  | 109 => ⟨S8x90x360x768, .f32⟩
  | 110 => ⟨S8x90x360x768, .f32⟩
  | 111 => ⟨S_, .f32⟩
  | 112 => ⟨S8x90x360x768, .f32⟩
  | 113 => ⟨S8x90x360x768, .f32⟩
  | 114 => ⟨S_, .f32⟩
  | 115 => ⟨S8x90x360x768, .f32⟩
  | 116 => ⟨S8x90x360x768, .f32⟩
  | 117 => ⟨S8x90x360x768, .f32⟩
  | 118 => ⟨S_, .f32⟩
  | 119 => ⟨S8x90x360x768, .f32⟩
  | 120 => ⟨S8x90x360x768, .f32⟩
  | 121 => ⟨S8x90x360x768, .f32⟩
  | 122 => ⟨S8x90x360x768, .f32⟩
  | 123 => ⟨S_, .f32⟩
  | 124 => ⟨S8x90x360, .f32⟩
  | 125 => ⟨S8x90x360x1, .f32⟩
  | 126 => ⟨S_, .f32⟩
  | 127 => ⟨S8x90x360x1, .f32⟩
  | _ => ⟨S1x8x90x360x192, .bf16⟩

abbrev hbmTy0_1 (i : Nat) : BufTy := match i % 128 with
  | 0 => ⟨S8x90x360x1, .i1⟩
  | 1 => ⟨S_, .f32⟩
  | 2 => ⟨S8x90x360x1, .f32⟩
  | 3 => ⟨S8x90x360x1, .f32⟩
  | 4 => ⟨S_, .f32⟩
  | 5 => ⟨S_, .f32⟩
  | 6 => ⟨S8x90x360x1, .f32⟩
  | 7 => ⟨S8x90x360x1, .f32⟩
  | 8 => ⟨S8x90x360x768, .f32⟩
  | 9 => ⟨S8x90x360x768, .f32⟩
  | 10 => ⟨S8x90x360x768, .f32⟩
  | 11 => ⟨S_, .f32⟩
  | 12 => ⟨S_, .f32⟩
  | 13 => ⟨S_, .f32⟩
  | 14 => ⟨S8x90x360x768, .f32⟩
  | 15 => ⟨S8x90x360x768, .f32⟩
  | 16 => ⟨S_, .f32⟩
  | 17 => ⟨S8x90x360x768, .f32⟩
  | 18 => ⟨S8x90x360x768, .f32⟩
  | 19 => ⟨S8x90x360x768, .i32⟩
  | 20 => ⟨S8x90x360x768, .i8⟩
  | 21 => ⟨S8x90x360, .f32⟩
  | 22 => ⟨S8x90x360x768, .i32⟩
  | 23 => ⟨S8x90x360x768, .f32⟩
  | 24 => ⟨S8x90x360x768, .bf16⟩
  | 25 => ⟨S768x192, .i32⟩
  | 26 => ⟨S768x192, .f32⟩
  | 27 => ⟨S768x192, .bf16⟩
  | 28 => ⟨S8x90x360x192, .f32⟩
  | 29 => ⟨S8x90x360x1, .f32⟩
  | 30 => ⟨S8x90x360x192, .f32⟩
  | 31 => ⟨S8x90x360x192, .f32⟩
  | 32 => ⟨S1x1x1x192, .f32⟩
  | 33 => ⟨S8x90x360x192, .f32⟩
  | 34 => ⟨S8x90x360x192, .f32⟩
  | 35 => ⟨S1x1x1x192, .f32⟩
  | 36 => ⟨S8x90x360x192, .f32⟩
  | 37 => ⟨S8x90x360x192, .f32⟩
  | 38 => ⟨S_, .f32⟩
  | 39 => ⟨S8x90x360, .f32⟩
  | 40 => ⟨S8x90x360x1, .f32⟩
  | 41 => ⟨S_, .f32⟩
  | 42 => ⟨S8x90x360x1, .f32⟩
  | 43 => ⟨S8x90x360x1, .f32⟩
  | 44 => ⟨S8x90x360x192, .f32⟩
  | 45 => ⟨S8x90x360x192, .f32⟩
  | 46 => ⟨S8x90x360x192, .f32⟩
  | 47 => ⟨S_, .f32⟩
  | 48 => ⟨S8x90x360, .f32⟩
  | 49 => ⟨S8x90x360x1, .f32⟩
  | 50 => ⟨S_, .f32⟩
  | 51 => ⟨S8x90x360x1, .f32⟩
  | 52 => ⟨S8x90x360x1, .f32⟩
  | 53 => ⟨S8x90x360x192, .f32⟩
  | 54 => ⟨S8x90x360x192, .f32⟩
  | 55 => ⟨S_, .f32⟩
  | 56 => ⟨S8x90x360x1, .f32⟩
  | 57 => ⟨S8x90x360x1, .f32⟩
  | 58 => ⟨S8x90x360x1, .f32⟩
  | 59 => ⟨S8x90x360x192, .f32⟩
  | 60 => ⟨S8x90x360x192, .f32⟩
  | 61 => ⟨S1x1x1x192, .f32⟩
  | 62 => ⟨S8x90x360x192, .f32⟩
  | 63 => ⟨S8x90x360x192, .f32⟩
  | 64 => ⟨S1x1x1x192, .f32⟩
  | 65 => ⟨S8x90x360x192, .f32⟩
  | 66 => ⟨S8x90x360x192, .f32⟩
  | 67 => ⟨S8x90x360x192, .f32⟩
  | 68 => ⟨S8x90x360x192, .bf16⟩
  | 69 => ⟨S8x90x192x360, .bf16⟩
  | 70 => ⟨S8x90x192x360, .i8⟩
  | 71 => ⟨S90x8x360, .f32⟩
  | 72 => ⟨S90x8x360, .f32⟩
  | _ => ⟨S1x8x90x360x192, .bf16⟩

abbrev hbmTy (i : Nat) : BufTy := match i / 128 with
  | 0 => hbmTy0_0 i
  | 1 => hbmTy0_1 i
  | _ => ⟨S1x8x90x360x192, .bf16⟩

abbrev bufTy : (tb : Table) → Fin (tcTables nBuf tb) → BufTy
  | .hbm, ⟨i, _⟩ => hbmTy i
  | _, _ => ⟨S1x8x90x360x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_cst_0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_1 : Ref sig .tc := ⟨.hbm, 46, rfl⟩
abbrev main_v28 : Ref sig .tc := ⟨.hbm, 47, rfl⟩
abbrev main_v29 : Ref sig .tc := ⟨.hbm, 48, rfl⟩
abbrev main_cst_2 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_4 : Ref sig .tc := ⟨.hbm, 68, rfl⟩
abbrev main_v47 : Ref sig .tc := ⟨.hbm, 69, rfl⟩
abbrev main_v48 : Ref sig .tc := ⟨.hbm, 70, rfl⟩
abbrev main_cst_5 : Ref sig .tc := ⟨.hbm, 71, rfl⟩
abbrev main_v49 : Ref sig .tc := ⟨.hbm, 72, rfl⟩
abbrev main_v50 : Ref sig .tc := ⟨.hbm, 73, rfl⟩
abbrev main_cst_6 : Ref sig .tc := ⟨.hbm, 74, rfl⟩
abbrev main_v51 : Ref sig .tc := ⟨.hbm, 75, rfl⟩
abbrev main_v52 : Ref sig .tc := ⟨.hbm, 76, rfl⟩
abbrev main_cst_7 : Ref sig .tc := ⟨.hbm, 77, rfl⟩
abbrev main_call0_v0 : Ref sig .tc := ⟨.hbm, 78, rfl⟩
abbrev main_call0_v1 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_8 : Ref sig .tc := ⟨.hbm, 84, rfl⟩
abbrev main_cst_9 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_10 : Ref sig .tc := ⟨.hbm, 111, rfl⟩
abbrev main_v77 : Ref sig .tc := ⟨.hbm, 112, rfl⟩
abbrev main_v78 : Ref sig .tc := ⟨.hbm, 113, rfl⟩
abbrev main_cst_11 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_12 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_13 : Ref sig .tc := ⟨.hbm, 123, rfl⟩
abbrev main_v86 : Ref sig .tc := ⟨.hbm, 124, rfl⟩
abbrev main_v87 : Ref sig .tc := ⟨.hbm, 125, rfl⟩
abbrev main_cst_14 : Ref sig .tc := ⟨.hbm, 126, rfl⟩
abbrev main_v88 : Ref sig .tc := ⟨.hbm, 127, rfl⟩
abbrev main_v89 : Ref sig .tc := ⟨.hbm, 128, rfl⟩
abbrev main_cst_15 : Ref sig .tc := ⟨.hbm, 129, rfl⟩
abbrev main_v90 : Ref sig .tc := ⟨.hbm, 130, rfl⟩
abbrev main_v91 : Ref sig .tc := ⟨.hbm, 131, rfl⟩
abbrev main_cst_16 : Ref sig .tc := ⟨.hbm, 132, rfl⟩
abbrev main_call3_v0 : Ref sig .tc := ⟨.hbm, 133, rfl⟩
abbrev main_call3_v1 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_17 : Ref sig .tc := ⟨.hbm, 139, rfl⟩
abbrev main_cst_18 : Ref sig .tc := ⟨.hbm, 140, rfl⟩
abbrev main_call5_v0 : Ref sig .tc := ⟨.hbm, 141, rfl⟩
abbrev main_call5_v1 : Ref sig .tc := ⟨.hbm, 142, rfl⟩
abbrev main_call5_v2 : Ref sig .tc := ⟨.hbm, 143, rfl⟩
abbrev main_call5_v3 : Ref sig .tc := ⟨.hbm, 144, rfl⟩
abbrev main_call5_v4 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_cst_19 : Ref sig .tc := ⟨.hbm, 166, rfl⟩
abbrev main_v116 : Ref sig .tc := ⟨.hbm, 167, rfl⟩
abbrev main_v117 : Ref sig .tc := ⟨.hbm, 168, rfl⟩
abbrev main_cst_20 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_cst_21 : Ref sig .tc := ⟨.hbm, 175, rfl⟩
abbrev main_v123 : Ref sig .tc := ⟨.hbm, 176, rfl⟩
abbrev main_v124 : Ref sig .tc := ⟨.hbm, 177, rfl⟩
abbrev main_cst_22 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_cst_23 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩

abbrev nD : Nat := 1
abbrev τ : Topo := Topo.v7x

variable {F : FTy → Type} [FloatOps F]
-- ==== Proof.Token.lean ====
/-
  One token of the block's second half, written as plain functions of extended reals.

  A token is one (level, latitude, longitude) position. It enters as its row `x` of the block's input, its row of
  attention codes `o` with their scale `os`, and leaves as the codes `mc` with scale `ms`, the codes `hc` with scale
  `hs`, and the row `y`. Nothing here mentions an array layout, a tile or a grid.
-/
module

public import Idealize.ShloMosaic.PureOps.Ideal
public import Idealize.ShloMosaic.PureOps.Ideal.Laws

@[expose] public section

noncomputable section

namespace Cert.Mlp

open Idealize Idealize.ShloMosaic

/-- The number of channels, 192. -/
abbrev cDim : EReal := Ideal.ofBits .f32 0x43400000#32
/-- The layer normalisation's epsilon. -/
abbrev cEps : EReal := Ideal.ofBits .f32 0x3727C5AC#32
/-- The greatest code, 127. -/
abbrev cMax : EReal := Ideal.ofBits .f32 0x42FE0000#32
/-- The least code, −127. -/
abbrev cMin : EReal := Ideal.ofBits .f32 0xC2FE0000#32
/-- What a row's maximum starts from, −∞. -/
abbrev cBot : EReal := Ideal.ofBits .f32 0xFF800000#32
/-- One half. -/
abbrev cHalf : EReal := Ideal.ofBits .f32 0x3F000000#32
/-- The square root of one half, as the programs round it. -/
abbrev cRoot : EReal := Ideal.ofBits .f32 0x3F3504F3#32

/-- An 8-bit code as the extended real it stands for. -/
abbrev ofCode (b : BitVec 8) : EReal := ((b.toInt : ℝ) : EReal)

/-- A linear layer on codes: the dot product of the codes `q` with column `j` of `w`, times the row's scale `s`, times
    the column's scale, plus the bias. -/
def lin {n m : Nat} (q : Fin n → EReal) (w : Fin n → Fin m → EReal) (s : EReal) (ws b : Fin m → EReal) (j : Fin m) :
    EReal := (∑ k, q k * w k j) * s * ws j + b j

/-- A row's deviation from its mean. -/
def dev (v : Fin 192 → EReal) (d : Fin 192) : EReal := v d - Ideal.div (∑ k, v k) cDim

/-- A row's mean squared deviation plus epsilon. -/
def spread (v : Fin 192 → EReal) : EReal := Ideal.div (∑ k, dev v k * dev v k) cDim + cEps

/-- Layer normalisation of a row with gain `g` and offset `b`. -/
def lnorm (v g b : Fin 192 → EReal) (d : Fin 192) : EReal := Ideal.div (dev v d) (Ideal.sqrt (spread v)) * g d + b d

/-- The greatest magnitude of a row. -/
def amax {n : Nat} (v : Fin n → EReal) : EReal :=
  Finset.fold max cBot (fun k => FloatOps.absf (F := Ideal) (φ := .f32) (v k)) Finset.univ

/-- A row's quantisation scale: its greatest magnitude over 127, or 1 for a row of zeros. -/
def scale {n : Nat} (v : Fin n → EReal) : EReal := if 0 < amax v then Ideal.div (amax v) cMax else 1

/-- A quotient rounded half to even and clipped to [−127, 127]. -/
def clipRound (q : EReal) : EReal := min cMax (max cMin (Ideal.liftRound Ideal.roundHalfEven q))

/-- The code of `v` at scale `s`, as an extended real. -/
def code (v s : EReal) : EReal := clipRound (Ideal.div v s)

/-- The gated activation `z/2 · (1 + erf(z/√2))`. -/
def gelu (z : EReal) : EReal := cHalf * z * (1 + Ideal.erf (z * cRoot))

/-- The weights: three linear layers (codes, column scales, bias) and two layer normalisations (gain, offset). -/
structure Weights where
  wp : Fin 192 → Fin 192 → EReal
  sp : Fin 192 → EReal
  bp : Fin 192 → EReal
  w1 : Fin 192 → Fin 768 → EReal
  s1 : Fin 768 → EReal
  b1 : Fin 768 → EReal
  w2 : Fin 768 → Fin 192 → EReal
  s2 : Fin 192 → EReal
  b2 : Fin 192 → EReal
  g1 : Fin 192 → EReal
  be1 : Fin 192 → EReal
  g2 : Fin 192 → EReal
  be2 : Fin 192 → EReal

/-- What a token enters with: its input row, its attention codes and their scale. -/
structure Token where
  x : Fin 192 → EReal
  o : Fin 192 → EReal
  os : EReal

variable (W : Weights) (T : Token)

/-- The output projection's row. -/
def proj : Fin 192 → EReal := lin T.o W.wp T.os W.sp W.bp
/-- The row after the first residual sum. -/
def x1 (d : Fin 192) : EReal := T.x d + lnorm (proj W T) W.g1 W.be1 d
/-- The first quantisation's scale. -/
def ms : EReal := scale (x1 W T)
/-- The first quantisation's codes. -/
def mc (d : Fin 192) : EReal := code (x1 W T d) (ms W T)
/-- The first layer's pre-activation. -/
def z (j : Fin 768) : EReal := lin (mc W T) W.w1 (ms W T) W.s1 W.b1 j
/-- The hidden row. -/
def h (j : Fin 768) : EReal := gelu (z W T j)
/-- The second quantisation's scale. -/
def hs : EReal := scale (h W T)
/-- The second quantisation's codes. -/
def hc (j : Fin 768) : EReal := code (h W T j) (hs W T)
/-- The second layer's row. -/
def f : Fin 192 → EReal := lin (hc W T) W.w2 (hs W T) W.s2 W.b2
/-- The block's output row. -/
def y (d : Fin 192) : EReal := x1 W T d + lnorm (f W T) W.g2 W.be2 d

end Cert.Mlp

end
-- ==== Proof.Scalars.lean ====
/-
  The facts about single extended reals on which the two programs differ: a quotient against a product with the
  reciprocal, a quotient by a square root against a product with the reciprocal square root, and a code kept as a float
  against a code stored as an 8-bit integer and read back.
-/
module

public import proofs.«01_k».proof.Proof.Token
public import Idealize.ShloMosaic.Lib.IdealHost

@[expose] public section

noncomputable section

namespace Cert.Mlp

open Idealize Idealize.ShloMosaic

/-- The greatest code is 127. -/
theorem cMax_eq : cMax = ((127 : ℝ) : EReal) := by
  simp [cMax, Ideal.ofBits, Ideal.ieee, -EReal.coe_mul]; norm_num

/-- The least code is −127. -/
theorem cMin_eq : cMin = ((-127 : ℝ) : EReal) := by
  simp [cMin, Ideal.ofBits, Ideal.ieee, -EReal.coe_mul, -EReal.coe_neg]; norm_num

/-- The number of channels is 192. -/
theorem cDim_eq : cDim = ((192 : ℝ) : EReal) := by
  simp [cDim, Ideal.ofBits, Ideal.ieee, -EReal.coe_mul]; norm_num

/-- Epsilon is positive. -/
theorem cEps_pos : 0 < cEps := by
  have h : cEps = ((10995116 * (2 : ℝ) ^ (-40 : ℤ) : ℝ) : EReal) := by
    simp [cEps, Ideal.ofBits, Ideal.ieee, -EReal.coe_mul]
  rw [h]
  exact_mod_cast (by positivity : (0 : ℝ) < 10995116 * (2 : ℝ) ^ (-40 : ℤ))

/-- Division by a positive real keeps a positive number positive. -/
theorem div_pos_of_pos {a : EReal} {r : ℝ} (hr : 0 < r) (ha : 0 < a) : 0 < Ideal.div a (r : EReal) := by
  have h0 : (r : EReal) ≠ 0 := by exact_mod_cast hr.ne'
  rw [Ideal.div, if_neg h0, ← EReal.coe_inv]
  exact EReal.mul_pos ha (by exact_mod_cast inv_pos.mpr hr)

/-- Division by a positive real keeps a number that is not negative so. -/
theorem div_nonneg_of_nonneg {a : EReal} {r : ℝ} (hr : 0 < r) (ha : 0 ≤ a) : 0 ≤ Ideal.div a (r : EReal) := by
  have h0 : (r : EReal) ≠ 0 := by exact_mod_cast hr.ne'
  rw [Ideal.div, if_neg h0, ← EReal.coe_inv]
  exact EReal.mul_nonneg ha (by exact_mod_cast (inv_pos.mpr hr).le)

/-- A quantisation scale is positive. -/
theorem scale_pos {n : Nat} (v : Fin n → EReal) : 0 < scale v := by
  unfold scale
  split_ifs with h
  · rw [cMax_eq]; exact div_pos_of_pos (by norm_num) h
  · exact zero_lt_one

/-- A product with the reciprocal of a nonzero number is the quotient. -/
theorem mul_recip (x : EReal) {s : EReal} (hs : s ≠ 0) : x * Ideal.div 1 s = Ideal.div x s := by
  simp only [Ideal.div, if_neg hs, one_mul]

/-- The square of an extended real is not negative. -/
theorem mul_self_nonneg' (x : EReal) : 0 ≤ x * x := by
  rcases le_total 0 x with h | h
  · exact EReal.mul_nonneg h h
  · have := EReal.mul_nonneg (EReal.neg_nonneg.mpr h) (EReal.neg_nonneg.mpr h)
    rwa [neg_mul_neg] at this

/-- The mean squared deviation plus epsilon is positive. -/
theorem spread_pos (v : Fin 192 → EReal) : 0 < spread v := by
  unfold spread
  rw [cDim_eq]
  have h := div_nonneg_of_nonneg (r := 192) (by norm_num)
    (Finset.sum_nonneg fun k (_ : k ∈ Finset.univ) => mul_self_nonneg' (dev v k))
  exact lt_of_lt_of_le cEps_pos (le_add_of_nonneg_left h)

/-- A product with the reciprocal square root of a positive number is the quotient by its square root. -/
theorem mul_rsqrt (x : EReal) {y : EReal} (hy : 0 < y) : x * Ideal.rsqrt y = Ideal.div x (Ideal.sqrt y) := by
  induction y with
  | bot => exact absurd hy (by simp)
  | top =>
    show x * 0 = Ideal.div x ⊤
    rw [Ideal.div, if_neg EReal.top_ne_zero, EReal.inv_top]
  | coe r =>
    have hr : 0 < r := by exact_mod_cast hy
    have hs : 0 < Real.sqrt r := Real.sqrt_pos.mpr hr
    have h0 : ((Real.sqrt r : ℝ) : EReal) ≠ 0 := by exact_mod_cast hs.ne'
    show x * (if r < 0 then ⊥ else if r = 0 then ⊤ else (((Real.sqrt r)⁻¹ : ℝ) : EReal))
      = Ideal.div x (if r < 0 then ⊥ else (Real.sqrt r : EReal))
    rw [if_neg hr.le.not_gt, if_neg hr.ne', if_neg hr.le.not_gt, Ideal.div, if_neg h0, ← EReal.coe_inv]

/-- A clipped rounded number is an integer between −127 and 127. -/
theorem clipRound_int (q : EReal) : ∃ n : ℤ, -127 ≤ n ∧ n ≤ 127 ∧ clipRound q = ((n : ℝ) : EReal) := by
  unfold clipRound
  rw [cMax_eq, cMin_eq]
  induction q with
  | bot => exact ⟨-127, by norm_num, by norm_num, by
      show min _ (max _ ⊥) = _
      rw [max_eq_left bot_le, min_eq_right (by exact_mod_cast (by norm_num : (-127 : ℝ) ≤ 127))]; norm_num⟩
  | top => exact ⟨127, by norm_num, by norm_num, by
      show min _ (max _ ⊤) = _
      rw [max_eq_right le_top, min_eq_left le_top]; norm_num⟩
  | coe r =>
    refine ⟨min 127 (max (-127) (Ideal.roundHalfEven r)), ?_, ?_, ?_⟩
    · exact le_min (by norm_num) (le_max_left _ _)
    · exact min_le_left _ _
    · show min _ (max _ (((Ideal.roundHalfEven r : ℤ) : ℝ) : EReal)) = _
      push_cast
      rfl

/-- Converting an integer between −127 and 127 to a signed integer of 8 bits keeps it. -/
theorem toInt_fptosi8 (n : ℤ) (h1 : -127 ≤ n) (h2 : n ≤ 127) :
    (Ideal.fptosi 8 ((n : ℝ) : EReal)).toInt = n := by
  rw [Ideal.fptosi, Ideal.toIntClamped_coe]
  simp only [Int.floor_intCast, Int.ceil_intCast, ite_self]
  rw [BitVec.toInt_ofInt]
  norm_num
  rw [min_eq_right (by omega), max_eq_right (by omega)]
  exact Int.bmod_eq_of_le (by omega) (by omega)

/-- The same by way of 32 bits, the upper ones dropped. -/
theorem fptosi32_setWidth (n : ℤ) (h1 : -127 ≤ n) (h2 : n ≤ 127) :
    BitVec.setWidth 8 (Ideal.fptosi 32 ((n : ℝ) : EReal)) = Ideal.fptosi 8 ((n : ℝ) : EReal) := by
  rw [Ideal.fptosi, Ideal.fptosi, Ideal.toIntClamped_coe, Ideal.toIntClamped_coe]
  simp only [Int.floor_intCast, Int.ceil_intCast, ite_self]
  norm_num
  rw [min_eq_right (by omega), max_eq_right (by omega), min_eq_right (by omega), max_eq_right (by omega)]
  apply BitVec.eq_of_toInt_eq
  rw [BitVec.toInt_ofInt, BitVec.toInt_setWidth, BitVec.toNat_ofInt, Int.bmod_eq_of_le (n := n) (by omega) (by omega)]
  rw [Int.bmod_def]
  omega

/-- A clipped rounded number stored in 8 bits by way of 32 is the one stored directly. -/
theorem store_code (q : EReal) :
    BitVec.setWidth 8 (Ideal.fptosi 32 (clipRound q)) = Ideal.fptosi 8 (clipRound q) := by
  obtain ⟨n, h1, h2, h⟩ := clipRound_int q
  rw [h, fptosi32_setWidth n h1 h2]

/-- A clipped rounded number stored in 8 bits and read back is itself. -/
theorem ofCode_store (q : EReal) : ofCode (Ideal.fptosi 8 (clipRound q)) = clipRound q := by
  obtain ⟨n, h1, h2, h⟩ := clipRound_int q
  rw [h, ofCode, toInt_fptosi8 n h1 h2]

/-- A token's code stored in 8 bits. -/
def stored (v s : EReal) : BitVec 8 := Ideal.fptosi 8 (code v s)

/-- A token's stored code, read back, is its code. -/
theorem ofCode_stored (v s : EReal) : ofCode (stored v s) = code v s := ofCode_store _

end Cert.Mlp

end
-- ==== Proof.Spec.lean ====
/-
  The five results as functions of the argument arrays: which token stands at level `k`, latitude `t` and longitude `l`,
  and what each result holds at an index.
-/
module

public import proofs.«01_k».proof.Proof.Scalars
public import Idealize.ShloMosaic.Lib.Pointwise

@[expose] public section

noncomputable section

namespace Cert.Mlp

open Idealize Idealize.ShloMosaic

/-- The sixteen argument arrays. -/
structure Args where
  /-- the residual input -/
  a0 : Vec Ideal (⟨5, ![1, 8, 90, 360, 192]⟩ : Shape) .bf16
  /-- the attention's codes -/
  a1 : Vec Ideal (⟨4, ![8, 90, 192, 360]⟩ : Shape) .i8
  /-- the attention's scales -/
  a2 : Vec Ideal (⟨3, ![90, 8, 360]⟩ : Shape) .f32
  /-- the projection, by head and channel of the head -/
  a3 : Vec Ideal (⟨3, ![6, 32, 192]⟩ : Shape) .i8
  a4 : Vec Ideal (⟨1, ![192]⟩ : Shape) .f32
  a5 : Vec Ideal (⟨1, ![192]⟩ : Shape) .f32
  /-- the first layer -/
  a6 : Vec Ideal (⟨2, ![192, 768]⟩ : Shape) .i8
  a7 : Vec Ideal (⟨1, ![768]⟩ : Shape) .f32
  a8 : Vec Ideal (⟨1, ![768]⟩ : Shape) .f32
  /-- the second layer -/
  a9 : Vec Ideal (⟨2, ![768, 192]⟩ : Shape) .i8
  a10 : Vec Ideal (⟨1, ![192]⟩ : Shape) .f32
  a11 : Vec Ideal (⟨1, ![192]⟩ : Shape) .f32
  /-- the normalizations' gains and offsets -/
  a12 : Vec Ideal (⟨1, ![192]⟩ : Shape) .f32
  a13 : Vec Ideal (⟨1, ![192]⟩ : Shape) .f32
  a14 : Vec Ideal (⟨1, ![192]⟩ : Shape) .f32
  a15 : Vec Ideal (⟨1, ![192]⟩ : Shape) .f32

namespace Args
variable (A : Args)

/-- The weights. -/
def W : Weights where
  wp c d := ofCode (A.a3 (ix3 ⟨c.val / 32, by omega⟩ ⟨c.val % 32, Nat.mod_lt _ (by decide)⟩ d))
  sp d := A.a4 (ix1 d)
  bp d := A.a5 (ix1 d)
  w1 c j := ofCode (A.a6 (ix2 c j))
  s1 j := A.a7 (ix1 j)
  b1 j := A.a8 (ix1 j)
  w2 j d := ofCode (A.a9 (ix2 j d))
  s2 d := A.a10 (ix1 d)
  b2 d := A.a11 (ix1 d)
  g1 d := A.a12 (ix1 d)
  be1 d := A.a13 (ix1 d)
  g2 d := A.a14 (ix1 d)
  be2 d := A.a15 (ix1 d)

/-- The token at level `k`, latitude `t` and longitude `l`. -/
def T (k : Fin 8) (t : Fin 90) (l : Fin 360) : Token where
  x d := A.a0 (ix5 0 k t l d)
  o c := ofCode (A.a1 (ix4 k t c l))
  os := A.a2 (ix3 t k l)

/-- The output, channels before longitudes. -/
def rY : Vec Ideal (⟨4, ![8, 90, 192, 360]⟩ : Shape) .bf16 := fun j => y A.W (A.T (j 0) (j 1) (j 3)) (j 2)
/-- The first codes, channels before longitudes. -/
def rMc : Vec Ideal (⟨4, ![8, 90, 192, 360]⟩ : Shape) .i8 := fun j =>
  stored (x1 A.W (A.T (j 0) (j 1) (j 3)) (j 2)) (ms A.W (A.T (j 0) (j 1) (j 3)))
/-- The first scales, latitudes before levels. -/
def rMs : Vec Ideal (⟨3, ![90, 8, 360]⟩ : Shape) .f32 := fun j => ms A.W (A.T (j 1) (j 0) (j 2))
/-- The second codes. -/
def rHc : Vec Ideal (⟨4, ![8, 90, 360, 768]⟩ : Shape) .i8 := fun j =>
  stored (h A.W (A.T (j 0) (j 1) (j 2)) (j 3)) (hs A.W (A.T (j 0) (j 1) (j 2)))
/-- The second scales, latitudes before levels. -/
def rHs : Vec Ideal (⟨3, ![90, 8, 360]⟩ : Shape) .f32 := fun j => hs A.W (A.T (j 1) (j 0) (j 2))

end Args

end Cert.Mlp

end
-- ==== Proof.Entry.lean ====
/-
  The arrays the kernel's windows read, as functions of the arguments: before the kernel the host only reshapes,
  transposes and repeats the arguments.
-/
module

public import proofs.«01_k».proof.Proof.Gen.KernelIdeal.Frame
public import Idealize.ShloMosaic.Lib.Pointwise

@[expose] public section

set_option maxRecDepth 16384

noncomputable section

namespace Cert.KernelIdeal.Hand

open Idealize Idealize.ShloMosaic Idealize.ShloMosaic.TcCoe Idealize.ShloMosaic.Tactic Idealize.ShloMosaic.StableHlo
open Cert.KernelIdeal Cert.KernelIdeal.Gen

section Layouts
variable (a0 : Vec Ideal S1x8x90x360x192 .bf16) (a3 : Vec Ideal S6x32x192 .i8) (v : Vec Ideal S192 .f32)
  (r : Vec Ideal S768 .f32) (a9 : Vec Ideal S768x192 .i8)

/-- The residual input with channels before longitudes. -/
def lX : Vec Ideal S8x90x192x360 .bf16 :=
  transpose S8x90x192x360 [0, 1, 3, 2] (shapeCast S8x90x360x192 a0 shapeCasts_S1x8x90x360x192_S8x90x360x192)
    transposes_S8x90x360x192_S8x90x192x360_0_1_3_2
/-- The projection with its heads flattened and its axes exchanged. -/
def lP : Vec Ideal S192x192 .i8 :=
  transpose S192x192 [1, 0] (shapeCast S192x192 a3 shapeCasts_S6x32x192_S192x192) transposes_S192x192_S192x192_1_0
/-- A vector as a column, repeated. -/
def lC : Vec Ideal S192x128 .f32 :=
  broadcastInDim S192x128 ![0, 1] bcast_S192x1_S192x128_0_1 (broadcastInDim S192x1 ![0] bcast_S192_S192x1_0 v)
/-- A vector as a row. -/
def lR : Vec Ideal S1x768 .f32 := broadcastInDim S1x768 ![1] bcast_S768_S1x768_1 r
/-- The second layer with its axes exchanged. -/
def lM : Vec Ideal S192x768 .i8 := transpose S192x768 [1, 0] a9 transposes_S768x192_S192x768_1_0

/-- The input with channels before longitudes, read at an index. -/
theorem lX_apply (k : Fin 8) (t : Fin 90) (d : Fin 192) (l : Fin 360) :
    lX a0 (ix4 k t d l) = a0 (ix5 0 k t l d) := by
  pointwise [lX]

/-- The projection flattened and transposed, read at an index. -/
theorem lP_apply (d c : Fin 192) :
    lP a3 (ix2 d c) = a3 (ix3 ⟨c.val / 32, by omega⟩ ⟨c.val % 32, Nat.mod_lt _ (by decide)⟩ d) := by
  pointwise [lP]

/-- A vector repeated over columns, read in the first. -/
theorem lC_apply (d : Fin 192) : lC v (ix2 d 0) = v (ix1 d) := by
  pointwise [lC]

/-- A vector as a row, read at an index. -/
theorem lR_apply (j : Fin 768) : lR r (ix2 0 j) = r (ix1 j) := by
  pointwise [lR]

/-- The second layer's transpose, read at an index. -/
theorem lM_apply (d : Fin 192) (j : Fin 768) : lM a9 (ix2 d j) = a9 (ix2 j d) := by
  pointwise [lM]

end Layouts

variable (m : (ℓ : Loc nD τ sig) → Buf (Elt Ideal) ℓ) (c : Dev nD)

/-- The array the call reads the input from. -/
theorem V_v1 : V m c main_v1 = lX (m ((c : Thread nD τ).loc main_arg0)) := by
  unfold_abbrev_sides
  after_results
  rfl

/-- The array the call reads the projection's codes from. -/
theorem V_v3 : V m c main_v3 = lP (m ((c : Thread nD τ).loc main_arg3)) := by
  unfold_abbrev_sides
  after_results
  rfl

/-- The array the call reads the projection's column scales from. -/
theorem V_v5 : V m c main_v5 = lC (m ((c : Thread nD τ).loc main_arg4)) := by
  unfold_abbrev_sides
  after_results
  rfl

/-- The array the call reads the projection's offsets from. -/
theorem V_v7 : V m c main_v7 = lC (m ((c : Thread nD τ).loc main_arg5)) := by
  unfold_abbrev_sides
  after_results
  rfl

/-- The array the call reads the second layer's column scales from. -/
theorem V_v12 : V m c main_v12 = lC (m ((c : Thread nD τ).loc main_arg10)) := by
  unfold_abbrev_sides
  after_results
  rfl

/-- The array the call reads the second layer's offsets from. -/
theorem V_v14 : V m c main_v14 = lC (m ((c : Thread nD τ).loc main_arg11)) := by
  unfold_abbrev_sides
  after_results
  rfl

/-- The array the call reads the first normalisation's gain from. -/
theorem V_v16 : V m c main_v16 = lC (m ((c : Thread nD τ).loc main_arg12)) := by
  unfold_abbrev_sides
  after_results
  rfl

/-- The array the call reads the first normalisation's offset from. -/
theorem V_v18 : V m c main_v18 = lC (m ((c : Thread nD τ).loc main_arg13)) := by
  unfold_abbrev_sides
  after_results
  rfl

/-- The array the call reads the second normalisation's gain from. -/
theorem V_v20 : V m c main_v20 = lC (m ((c : Thread nD τ).loc main_arg14)) := by
  unfold_abbrev_sides
  after_results
  rfl

/-- The array the call reads the second normalisation's offset from. -/
theorem V_v22 : V m c main_v22 = lC (m ((c : Thread nD τ).loc main_arg15)) := by
  unfold_abbrev_sides
  after_results
  rfl

/-- The array the call reads the first layer's column scales from. -/
theorem V_v8 : V m c main_v8 = lR (m ((c : Thread nD τ).loc main_arg7)) := by
  unfold_abbrev_sides
  after_results
  rfl

/-- The array the call reads the first layer's offsets from. -/
theorem V_v9 : V m c main_v9 = lR (m ((c : Thread nD τ).loc main_arg8)) := by
  unfold_abbrev_sides
  after_results
  rfl

/-- The array the call reads the second layer's codes from. -/
theorem V_v10 : V m c main_v10 = lM (m ((c : Thread nD τ).loc main_arg9)) := by
  unfold_abbrev_sides
  after_results
  rfl

end Cert.KernelIdeal.Hand

end
-- ==== Proof.Payloads.lean ====
/-
  What one trip of the kernel's loop computes: each value the trip stores, read at one index, is the function of that
  index's token.

  A trip handles one level of one latitude: the tokens are the columns of its blocks, so a channel is a row index here
  and the two layers' weights arrive with their axes exchanged.
-/
module

public import proofs.«01_k».proof.Proof.Scalars
public import proofs.«01_k».proof.Proof.Gen.KernelIdeal.Skeleton
public import Idealize.ShloMosaic.Lib.Pointwise

@[expose] public section

set_option maxRecDepth 16384

noncomputable section

namespace Cert.KernelIdeal.Hand

open Idealize Idealize.ShloMosaic
open Cert.KernelIdeal Cert.KernelIdeal.Gen
open Cert.Mlp

/-- The linear layer with the factors of each product exchanged. -/
def linT {n m : Nat} (q : Fin n → EReal) (w : Fin n → Fin m → EReal) (s : EReal) (ws b : Fin m → EReal) (j : Fin m) :
    EReal := (∑ k, w k j * q k) * s * ws j + b j

/-- A linear layer with the factors of its products exchanged is the linear layer. -/
theorem linT_eq {n m : Nat} (q : Fin n → EReal) (w : Fin n → Fin m → EReal) (s : EReal) (ws b : Fin m → EReal) :
    linT q w s ws b = lin q w s ws b := by
  funext j
  simp only [linT, lin, mul_comm]

/-- A 8-bit code converted to a float is the code. -/
theorem sitofp_code (b : BitVec 8) : FloatOps.sitofp (F := Ideal) .bf16 b = ofCode b := rfl

section One
variable (v2 : Vec Ideal S1x1x192x360 .i8) (v6 : Vec Ideal S1x1x360 .f32) (v8 : Vec Ideal S192x192 .i8)
  (v14 v18 : Vec Ideal S192x1 .f32)

/-- The projection's column of token `l`. -/
def colProj (l : Fin 360) : Fin 192 → EReal :=
  linT (fun c => ofCode (v2 (ix4 0 0 c l))) (fun c d => ofCode (v8 (ix2 d c))) (v6 (ix3 0 0 l))
    (fun d => v14 (ix2 d 0)) (fun d => v18 (ix2 d 0))

/-- One of the body's intermediate values, read at an index. -/
theorem pay3_apply (d : Fin 192) (l : Fin 360) :
    k0_pay3 v2 v6 v8 v14 v18 (ix2 d l) = dev (colProj v2 v6 v8 v14 v18 l) d := by
  pointwise [k0_pay3, dev, colProj, linT, sitofp_code]

/-- One of the body's intermediate values, read at an index. -/
theorem pay4_apply (l : Fin 360) :
    k0_pay4 v2 v6 v8 v14 v18 (ix2 0 l) = Ideal.rsqrt (spread (colProj v2 v6 v8 v14 v18 l)) := by
  pointwise [k0_pay4, spread, pay3_apply]

end One

/-- One of the body's intermediate values, read at an index. -/
theorem pay2_apply (v23 : Vec Ideal S1x1x192x360 .bf16) (d : Fin 192) (l : Fin 360) :
    k0_pay2 v23 (ix2 d l) = v23 (ix4 0 0 d l) := by
  pointwise [k0_pay2]

section Two
variable (v25 v31 : FVec Ideal S192x360 .f32) (v39 : FVec Ideal S1x360 .f32) (v42 v46 : Vec Ideal S192x1 .f32)

/-- One of the body's intermediate values, read at an index. -/
theorem pay5_apply (d : Fin 192) (l : Fin 360) :
    k0_pay5 v25 v31 v39 v42 v46 (ix2 d l)
      = v25 (ix2 d l) + (v31 (ix2 d l) * v39 (ix2 0 l) * v42 (ix2 d 0) + v46 (ix2 d 0)) := by
  pointwise [k0_pay5]

/-- One of the body's intermediate values, read at an index. -/
theorem pay6_apply (l : Fin 360) :
    k0_pay6 v25 v31 v39 v42 v46 (ix2 0 l) = scale (fun d => k0_pay5 v25 v31 v39 v42 v46 (ix2 d l)) := by
  pointwise [k0_pay6, scale, amax]

/-- One of the body's intermediate values, read at an index. -/
theorem pay7_apply (d : Fin 192) (l : Fin 360) :
    k0_pay7 v25 v31 v39 v42 v46 (ix2 d l)
      = code (k0_pay5 v25 v31 v39 v42 v46 (ix2 d l)) (k0_pay6 v25 v31 v39 v42 v46 (ix2 0 l)) := by
  rw [code, ← mul_recip _ (s := k0_pay6 v25 v31 v39 v42 v46 (ix2 0 l))
    (by rw [pay6_apply]; exact (scale_pos _).ne')]
  pointwise [k0_pay7, clipRound]

/-- One of the body's intermediate values, read at an index. -/
theorem pay8_apply (d : Fin 192) (l : Fin 360) :
    k0_pay8 v25 v31 v39 v42 v46 (ix4 0 0 d l) = Ideal.fptosi 8 (k0_pay7 v25 v31 v39 v42 v46 (ix2 d l)) := by
  pointwise [k0_pay8]
  rfl

/-- One of the body's intermediate values, read at an index. -/
theorem pay9_apply (l : Fin 360) :
    k0_pay9 v25 v31 v39 v42 v46 (ix3 0 0 l) = k0_pay6 v25 v31 v39 v42 v46 (ix2 0 l) := by
  pointwise [k0_pay9]

/-- One of the body's intermediate values, read at an index. -/
theorem pay10_apply (d : Fin 192) (l : Fin 360) :
    k0_pay10 v25 v31 v39 v42 v46 (ix2 d l) = k0_pay7 v25 v31 v39 v42 v46 (ix2 d l) := by
  pointwise [k0_pay10]

end Two

section Three
variable (v59 : FVec Ideal S1x360 .f32) (v78 : FVec Ideal S192x360 .bf16) (v79 : Vec Ideal S192x768 .i8)
  (v88 v92 : Vec Ideal S1x768 .f32)

/-- One of the body's intermediate values, read at an index. -/
theorem pay11_apply (l : Fin 360) (j : Fin 768) :
    k0_pay11 v59 v78 v79 v88 v92 (ix2 l j)
      = gelu (lin (fun c => v78 (ix2 c l)) (fun c e => ofCode (v79 (ix2 c e))) (v59 (ix2 0 l))
          (fun e => v88 (ix2 0 e)) (fun e => v92 (ix2 0 e)) j) := by
  pointwise [k0_pay11, gelu, lin, sitofp_code]
  rfl

/-- One of the body's intermediate values, read at an index. -/
theorem pay12_apply (l : Fin 360) :
    k0_pay12 v59 v78 v79 v88 v92 (ix2 l 0) = scale (fun j => k0_pay11 v59 v78 v79 v88 v92 (ix2 l j)) := by
  pointwise [k0_pay12, scale, amax]

/-- One of the body's intermediate values, read at an index. -/
theorem pay13_apply (l : Fin 360) (j : Fin 768) :
    k0_pay13 v59 v78 v79 v88 v92 (ix2 l j)
      = code (k0_pay11 v59 v78 v79 v88 v92 (ix2 l j)) (k0_pay12 v59 v78 v79 v88 v92 (ix2 l 0)) := by
  rw [code, ← mul_recip _ (s := k0_pay12 v59 v78 v79 v88 v92 (ix2 l 0))
    (by rw [pay12_apply]; exact (scale_pos _).ne')]
  pointwise [k0_pay13, clipRound]

/-- One of the body's intermediate values, read at an index. -/
theorem pay15_apply (l : Fin 360) (j : Fin 768) :
    k0_pay15 (k0_pay14 v59 v78 v79 v88 v92) (ix4 0 0 l j) = Ideal.fptosi 8 (k0_pay13 v59 v78 v79 v88 v92 (ix2 l j)) := by
  pointwise [k0_pay15, k0_pay14]
  rfl

end Three

section Four
variable (v112 : FVec Ideal S360x1 .f32) (v121 : FVec Ideal S360x768 .f32) (v135 : Vec Ideal S192x768 .i8)
  (v142 v146 : Vec Ideal S192x1 .f32)

/-- One of the body's intermediate values, read at an index. -/
theorem pay17_apply (l : Fin 360) : k0_pay17 v112 (ix3 0 0 l) = v112 (ix2 l 0) := by
  pointwise [k0_pay17, k0_pay16]

/-- The second layer's column of token `l`. -/
def colFc2 (l : Fin 360) : Fin 192 → EReal :=
  linT (fun j => v121 (ix2 l j)) (fun j d => ofCode (v135 (ix2 d j))) (v112 (ix2 l 0))
    (fun d => v142 (ix2 d 0)) (fun d => v146 (ix2 d 0))

/-- One of the body's intermediate values, read at an index. -/
theorem pay18_apply (d : Fin 192) (l : Fin 360) :
    k0_pay18 v112 v121 v135 v142 v146 (ix2 d l)
      = dev (colFc2 v112 v121 v135 v142 v146 l) d * Ideal.rsqrt (spread (colFc2 v112 v121 v135 v142 v146 l)) := by
  pointwise [k0_pay18, k0_pay16, dev, spread, colFc2, linT, sitofp_code]

/-- One of the body's intermediate values, read at an index. -/
theorem pay1_apply (v50 v165 : FVec Ideal S192x360 .f32) (v166 v170 : Vec Ideal S192x1 .f32) (d : Fin 192)
    (l : Fin 360) :
    k0_pay1 v50 v165 v166 v170 (ix4 0 0 d l)
      = v50 (ix2 d l) + (v165 (ix2 d l) * v166 (ix2 d 0) + v170 (ix2 d 0)) := by
  pointwise [k0_pay1]

end Four

/-! ## The trip's values as functions of the token -/

/-- What a trip loads: its level's blocks and the weights. -/
structure Loads where
  v2 : Vec Ideal S1x1x192x360 .i8
  v6 : Vec Ideal S1x1x360 .f32
  v8 : Vec Ideal S192x192 .i8
  v14 : Vec Ideal S192x1 .f32
  v18 : Vec Ideal S192x1 .f32
  v23 : Vec Ideal S1x1x192x360 .bf16
  v42 : Vec Ideal S192x1 .f32
  v46 : Vec Ideal S192x1 .f32
  v79 : Vec Ideal S192x768 .i8
  v88 : Vec Ideal S1x768 .f32
  v92 : Vec Ideal S1x768 .f32
  v135 : Vec Ideal S192x768 .i8
  v142 : Vec Ideal S192x1 .f32
  v146 : Vec Ideal S192x1 .f32
  v166 : Vec Ideal S192x1 .f32
  v170 : Vec Ideal S192x1 .f32

namespace Loads
variable (R : Loads)

/-- The weights a trip loads. -/
def W : Weights where
  wp c d := ofCode (R.v8 (ix2 d c))
  sp d := R.v14 (ix2 d 0)
  bp d := R.v18 (ix2 d 0)
  w1 c j := ofCode (R.v79 (ix2 c j))
  s1 j := R.v88 (ix2 0 j)
  b1 j := R.v92 (ix2 0 j)
  w2 j d := ofCode (R.v135 (ix2 d j))
  s2 d := R.v142 (ix2 d 0)
  b2 d := R.v146 (ix2 d 0)
  g1 d := R.v42 (ix2 d 0)
  be1 d := R.v46 (ix2 d 0)
  g2 d := R.v166 (ix2 d 0)
  be2 d := R.v170 (ix2 d 0)

/-- The token in column `l`. -/
def T (l : Fin 360) : Token where
  x d := R.v23 (ix4 0 0 d l)
  o c := ofCode (R.v2 (ix4 0 0 c l))
  os := R.v6 (ix3 0 0 l)

/-- The first residual sum's block. -/
abbrev p5 : FVec Ideal S192x360 .f32 :=
  k0_pay5 (k0_pay2 R.v23) (k0_pay3 R.v2 R.v6 R.v8 R.v14 R.v18) (k0_pay4 R.v2 R.v6 R.v8 R.v14 R.v18) R.v42 R.v46
/-- Its scales. -/
abbrev p6 : FVec Ideal S1x360 .f32 :=
  k0_pay6 (k0_pay2 R.v23) (k0_pay3 R.v2 R.v6 R.v8 R.v14 R.v18) (k0_pay4 R.v2 R.v6 R.v8 R.v14 R.v18) R.v42 R.v46
/-- Its codes, as floats. -/
abbrev p10 : FVec Ideal S192x360 .bf16 :=
  k0_pay10 (k0_pay2 R.v23) (k0_pay3 R.v2 R.v6 R.v8 R.v14 R.v18) (k0_pay4 R.v2 R.v6 R.v8 R.v14 R.v18) R.v42 R.v46
/-- The scales of the hidden block. -/
abbrev p12 : FVec Ideal S360x1 .f32 := k0_pay12 R.p6 R.p10 R.v79 R.v88 R.v92
/-- The codes of the hidden block, as floats. -/
abbrev p13 : FVec Ideal S360x768 .f32 := k0_pay13 R.p6 R.p10 R.v79 R.v88 R.v92
/-- The stored block of the output. -/
abbrev pY : FVec Ideal S1x1x192x360 .bf16 := k0_pay1 R.p5 (k0_pay18 R.p12 R.p13 R.v135 R.v142 R.v146) R.v166 R.v170
/-- The stored block of first codes. -/
abbrev pMc : IVec S1x1x192x360 8 :=
  k0_pay8 (k0_pay2 R.v23) (k0_pay3 R.v2 R.v6 R.v8 R.v14 R.v18) (k0_pay4 R.v2 R.v6 R.v8 R.v14 R.v18) R.v42 R.v46
/-- The stored row of first scales. -/
abbrev pMs : FVec Ideal S1x1x360 .f32 :=
  k0_pay9 (k0_pay2 R.v23) (k0_pay3 R.v2 R.v6 R.v8 R.v14 R.v18) (k0_pay4 R.v2 R.v6 R.v8 R.v14 R.v18) R.v42 R.v46
/-- The stored block of second codes. -/
abbrev pHc : IVec S1x1x360x768 8 := k0_pay15 (k0_pay14 R.p6 R.p10 R.v79 R.v88 R.v92)
/-- The stored row of second scales. -/
abbrev pHs : FVec Ideal S1x1x360 .f32 := k0_pay17 R.p12

/-- A column's projection is its token's. -/
theorem colProj_eq (l : Fin 360) : colProj R.v2 R.v6 R.v8 R.v14 R.v18 l = proj R.W (R.T l) := linT_eq _ _ _ _ _

/-- The first residual sum, read at an index. -/
theorem p5_apply (d : Fin 192) (l : Fin 360) : R.p5 (ix2 d l) = x1 R.W (R.T l) d := by
  rw [p5, pay5_apply, pay2_apply, pay3_apply, pay4_apply, colProj_eq, mul_rsqrt _ (spread_pos _)]
  rfl

/-- The first scales, read at an index. -/
theorem p6_apply (l : Fin 360) : R.p6 (ix2 0 l) = ms R.W (R.T l) := by
  rw [p6, pay6_apply]
  exact congrArg scale (funext fun d => R.p5_apply d l)

/-- The first codes as floats, read at an index. -/
theorem p10_apply (d : Fin 192) (l : Fin 360) : R.p10 (ix2 d l) = mc R.W (R.T l) d := by
  rw [p10, pay10_apply, pay7_apply]
  exact congrArg₂ code (R.p5_apply d l) (R.p6_apply l)

/-- The hidden rows, read at an index. -/
theorem p11_apply (l : Fin 360) (j : Fin 768) :
    k0_pay11 R.p6 R.p10 R.v79 R.v88 R.v92 (ix2 l j) = h R.W (R.T l) j := by
  rw [pay11_apply, p6_apply]
  simp only [p10_apply]
  rfl

/-- The second scales as a column, read at an index. -/
theorem p12_apply (l : Fin 360) : R.p12 (ix2 l 0) = hs R.W (R.T l) := by
  rw [p12, pay12_apply]
  exact congrArg scale (funext fun j => R.p11_apply l j)

/-- The second codes as floats, read at an index. -/
theorem p13_apply (l : Fin 360) (j : Fin 768) : R.p13 (ix2 l j) = hc R.W (R.T l) j := by
  rw [p13, pay13_apply]
  exact congrArg₂ code (R.p11_apply l j) (R.p12_apply l)

/-- A column's second layer is its token's. -/
theorem colFc2_eq (l : Fin 360) : colFc2 R.p12 R.p13 R.v135 R.v142 R.v146 l = f R.W (R.T l) := by
  rw [colFc2, linT_eq, p12_apply]
  simp only [p13_apply]
  rfl

/-- The stored output block holds the token's output row. -/
theorem pY_apply (d : Fin 192) (l : Fin 360) : R.pY (ix4 0 0 d l) = y R.W (R.T l) d := by
  rw [pY, pay1_apply, pay18_apply, colFc2_eq, mul_rsqrt _ (spread_pos _), p5_apply]
  rfl

/-- The stored first codes are the token's. -/
theorem pMc_apply (d : Fin 192) (l : Fin 360) :
    R.pMc (ix4 0 0 d l) = stored (x1 R.W (R.T l) d) (ms R.W (R.T l)) := by
  rw [pMc, pay8_apply, ← pay10_apply]
  exact congrArg (Ideal.fptosi 8) (R.p10_apply d l)

/-- The stored first scales are the token's. -/
theorem pMs_apply (l : Fin 360) : R.pMs (ix3 0 0 l) = ms R.W (R.T l) := by
  rw [pMs, pay9_apply]
  exact R.p6_apply l

/-- The stored second codes are the token's. -/
theorem pHc_apply (l : Fin 360) (j : Fin 768) :
    R.pHc (ix4 0 0 l j) = stored (h R.W (R.T l) j) (hs R.W (R.T l)) := by
  rw [pHc, pay15_apply]
  exact congrArg (Ideal.fptosi 8) (R.p13_apply l j)

/-- The stored second scales are the token's. -/
theorem pHs_apply (l : Fin 360) : R.pHs (ix3 0 0 l) = hs R.W (R.T l) := by
  rw [pHs, pay17_apply]
  exact R.p12_apply l

end Loads

end Cert.KernelIdeal.Hand

end
-- ==== Proof.Pieces.lean ====
/-
  What the kernel's body leaves in its output blocks at one latitude, as functions of its input blocks.

  The body is one loop over the eight levels. Its trip at level `k` stores, into each of the five output blocks, one
  piece: level `k`'s rows. So the pieces of the trips before `k` agree with one function per output, and as the pieces of
  all the trips cover the block, the block holds that function.
-/
module

public import proofs.«01_k».proof.Proof.Payloads
public import proofs.«01_k».proof.Proof.Gen.KernelIdeal.Frame
public import Idealize.ShloMosaic.Lib.Writes
public import Idealize.ShloMosaic.Lib.Pipeline.ValueKit.Tiles

@[expose] public section

set_option maxRecDepth 16384

noncomputable section

namespace Cert.KernelIdeal.Hand

open Idealize Idealize.ShloMosaic Idealize.ShloMosaic.TcCoe Idealize.ShloMosaic.Tactic
open Cert.KernelIdeal Cert.KernelIdeal.Gen
open Cert.Mlp

/-- The body's input blocks at one latitude. -/
structure Blocks where
  /-- the residual input -/
  x0 : Vec Ideal S8x1x192x360 .bf16
  /-- the attention's codes -/
  x1 : Vec Ideal S8x1x192x360 .i8
  /-- the attention's scales -/
  x2 : Vec Ideal S1x8x360 .f32
  /-- the projection -/
  x3 : Vec Ideal S192x192 .i8
  /-- its scales -/
  x4 : Vec Ideal S192x128 .f32
  /-- its offsets -/
  x5 : Vec Ideal S192x128 .f32
  /-- the first layer -/
  x6 : Vec Ideal S192x768 .i8
  /-- its scales -/
  x7 : Vec Ideal S1x768 .f32
  /-- its offsets -/
  x8 : Vec Ideal S1x768 .f32
  /-- the second layer -/
  x9 : Vec Ideal S192x768 .i8
  /-- its scales -/
  x10 : Vec Ideal S192x128 .f32
  /-- its offsets -/
  x11 : Vec Ideal S192x128 .f32
  /-- the first normalization's gain -/
  x12 : Vec Ideal S192x128 .f32
  /-- its offset -/
  x13 : Vec Ideal S192x128 .f32
  /-- the second normalization's gain -/
  x14 : Vec Ideal S192x128 .f32
  /-- its offset -/
  x15 : Vec Ideal S192x128 .f32

namespace Blocks

/-- What the trip at level `k` loads of the input blocks. -/
def loads (B : Blocks) (k : Fin k0_t1_loop.trips) : Loads where
  v2 := View.ld B.x1 (Rect.unit (s := S8x1x192x360) (k0_off1 k) S1x1x192x360.size (k0_off1_inb k))
  v6 := View.ld B.x2 (Rect.unit (s := S1x8x360) (k0_off2 k) S1x1x360.size (k0_off2_inb k))
  v8 := View.ld B.x3 (Rect.unit (s := S192x192) ![0, 0] S192x192.size inb_S192x192_S192x192_0_0)
  v14 := View.ld B.x4 (Rect.unit (s := S192x128) ![0, 0] S192x1.size inb_S192x128_S192x1_0_0)
  v18 := View.ld B.x5 (Rect.unit (s := S192x128) ![0, 0] S192x1.size inb_S192x128_S192x1_0_0)
  v23 := View.ld B.x0 (Rect.unit (s := S8x1x192x360) (k0_off1 k) S1x1x192x360.size (k0_off1_inb k))
  v42 := View.ld B.x12 (Rect.unit (s := S192x128) ![0, 0] S192x1.size inb_S192x128_S192x1_0_0)
  v46 := View.ld B.x13 (Rect.unit (s := S192x128) ![0, 0] S192x1.size inb_S192x128_S192x1_0_0)
  v79 := View.ld B.x6 (Rect.unit (s := S192x768) ![0, 0] S192x768.size inb_S192x768_S192x768_0_0)
  v88 := View.ld B.x7 (Rect.unit (s := S1x768) ![0, 0] S1x768.size inb_S1x768_S1x768_0_0)
  v92 := View.ld B.x8 (Rect.unit (s := S1x768) ![0, 0] S1x768.size inb_S1x768_S1x768_0_0)
  v135 := View.ld B.x9 (Rect.unit (s := S192x768) ![0, 0] S192x768.size inb_S192x768_S192x768_0_0)
  v142 := View.ld B.x10 (Rect.unit (s := S192x128) ![0, 0] S192x1.size inb_S192x128_S192x1_0_0)
  v146 := View.ld B.x11 (Rect.unit (s := S192x128) ![0, 0] S192x1.size inb_S192x128_S192x1_0_0)
  v166 := View.ld B.x14 (Rect.unit (s := S192x128) ![0, 0] S192x1.size inb_S192x128_S192x1_0_0)
  v170 := View.ld B.x15 (Rect.unit (s := S192x128) ![0, 0] S192x1.size inb_S192x128_S192x1_0_0)

end Blocks

/-- The loop has eight trips. -/
theorem trips_eq : k0_t1_loop.trips = 8 := by decide +kernel

/-- A trip's level. -/
def lev (k : Fin k0_t1_loop.trips) : Fin 8 := ⟨k.val, trips_eq ▸ k.isLt⟩

section Reads

/-- A trip's load of its level from a block of tokens. -/
theorem ld1_apply {e : EltTy} (X : Vec Ideal S8x1x192x360 e) (k : Fin k0_t1_loop.trips) (d : Fin 192) (l : Fin 360) :
    View.ld X (Rect.unit (s := S8x1x192x360) (k0_off1 k) S1x1x192x360.size (k0_off1_inb k)) (ix4 0 0 d l)
      = X (ix4 (lev k) 0 d l) := by
  refine View.ld_unit_apply_of X _ _ _ _ _ fun a => Eq.trans ?_ (congrArg (· + _) (congrFun (k0_off1_eq k) a)).symm
  match a with
  | 0 => rfl
  | 1 => rfl
  | 2 => exact (Nat.zero_add _).symm
  | 3 => exact (Nat.zero_add _).symm

/-- A trip's load of its level's scales. -/
theorem ld2_apply {e : EltTy} (X : Vec Ideal S1x8x360 e) (k : Fin k0_t1_loop.trips) (l : Fin 360) :
    View.ld X (Rect.unit (s := S1x8x360) (k0_off2 k) S1x1x360.size (k0_off2_inb k)) (ix3 0 0 l)
      = X (ix3 0 (lev k) l) := by
  refine View.ld_unit_apply_of X _ _ _ _ _ fun a => Eq.trans ?_ (congrArg (· + _) (congrFun (k0_off2_eq k) a)).symm
  match a with
  | 0 => rfl
  | 1 => rfl
  | 2 => exact (Nat.zero_add _).symm

/-- The load of the first column of a block of repeated columns. -/
theorem ldc_apply {e : EltTy} (X : Vec Ideal S192x128 e) (d : Fin 192) :
    View.ld X (Rect.unit (s := S192x128) ![0, 0] S192x1.size inb_S192x128_S192x1_0_0) (ix2 d 0) = X (ix2 d 0) := by
  refine View.ld_unit_apply_of X _ _ _ _ _ fun a => ?_
  match a with
  | 0 => exact (Nat.zero_add _).symm
  | 1 => rfl

/-- The load of a whole layer. -/
theorem ldw_apply {e : EltTy} (X : Vec Ideal S192x768 e) (d : Fin 192) (j : Fin 768) :
    View.ld X (Rect.unit (s := S192x768) ![0, 0] S192x768.size inb_S192x768_S192x768_0_0) (ix2 d j) = X (ix2 d j) := by
  refine View.ld_unit_apply_of X _ _ _ _ _ fun a => ?_
  match a with
  | 0 => exact (Nat.zero_add _).symm
  | 1 => exact (Nat.zero_add _).symm

/-- The load of the whole projection. -/
theorem ldp_apply {e : EltTy} (X : Vec Ideal S192x192 e) (d j : Fin 192) :
    View.ld X (Rect.unit (s := S192x192) ![0, 0] S192x192.size inb_S192x192_S192x192_0_0) (ix2 d j) = X (ix2 d j) := by
  refine View.ld_unit_apply_of X _ _ _ _ _ fun a => ?_
  match a with
  | 0 => exact (Nat.zero_add _).symm
  | 1 => exact (Nat.zero_add _).symm

/-- The load of a whole row. -/
theorem ldr_apply {e : EltTy} (X : Vec Ideal S1x768 e) (j : Fin 768) :
    View.ld X (Rect.unit (s := S1x768) ![0, 0] S1x768.size inb_S1x768_S1x768_0_0) (ix2 0 j) = X (ix2 0 j) := by
  refine View.ld_unit_apply_of X _ _ _ _ _ fun a => ?_
  match a with
  | 0 => rfl
  | 1 => exact (Nat.zero_add _).symm

end Reads

namespace Blocks
variable (B : Blocks)

/-- The weights the blocks hold. -/
def W : Weights where
  wp c d := ofCode (B.x3 (ix2 d c))
  sp d := B.x4 (ix2 d 0)
  bp d := B.x5 (ix2 d 0)
  w1 c j := ofCode (B.x6 (ix2 c j))
  s1 j := B.x7 (ix2 0 j)
  b1 j := B.x8 (ix2 0 j)
  w2 j d := ofCode (B.x9 (ix2 d j))
  s2 d := B.x10 (ix2 d 0)
  b2 d := B.x11 (ix2 d 0)
  g1 d := B.x12 (ix2 d 0)
  be1 d := B.x13 (ix2 d 0)
  g2 d := B.x14 (ix2 d 0)
  be2 d := B.x15 (ix2 d 0)

/-- The token the blocks hold at level `k` and longitude `l`. -/
def T (k : Fin 8) (l : Fin 360) : Token where
  x d := B.x0 (ix4 k 0 d l)
  o c := ofCode (B.x1 (ix4 k 0 c l))
  os := B.x2 (ix3 0 k l)

/-- Every trip loads the block's weights. -/
theorem loads_W (k : Fin k0_t1_loop.trips) : (B.loads k).W = B.W := by
  unfold Loads.W W
  congr 1 <;> funext a
  exacts [funext fun d => congrArg ofCode (ldp_apply B.x3 d a), ldc_apply B.x4 a, ldc_apply B.x5 a,
    funext fun j => congrArg ofCode (ldw_apply B.x6 a j), ldr_apply B.x7 a, ldr_apply B.x8 a,
    funext fun d => congrArg ofCode (ldw_apply B.x9 d a), ldc_apply B.x10 a, ldc_apply B.x11 a, ldc_apply B.x12 a,
    ldc_apply B.x13 a, ldc_apply B.x14 a, ldc_apply B.x15 a]

/-- A trip loads its level's tokens. -/
theorem loads_T (k : Fin k0_t1_loop.trips) (l : Fin 360) : (B.loads k).T l = B.T (lev k) l := by
  unfold Loads.T T
  congr 1
  exacts [funext fun d => ld1_apply B.x0 k d l, funext fun d => congrArg ofCode (ld1_apply B.x1 k d l), ld2_apply B.x2 k l]

/-- The output block: each token's output row. -/
def oY : Vec Ideal S8x1x192x360 .bf16 := fun j => y B.W (B.T (j 0) (j 3)) (j 2)
/-- The first codes' block. -/
def oMc : Vec Ideal S8x1x192x360 .i8 := fun j => stored (Cert.Mlp.x1 B.W (B.T (j 0) (j 3)) (j 2)) (ms B.W (B.T (j 0) (j 3)))
/-- The first scales' block. -/
def oMs : Vec Ideal S1x8x360 .f32 := fun j => ms B.W (B.T (j 1) (j 2))
/-- The second codes' block. -/
def oHc : Vec Ideal S8x1x360x768 .i8 := fun j => stored (h B.W (B.T (j 0) (j 2)) (j 3)) (hs B.W (B.T (j 0) (j 2)))
/-- The second scales' block. -/
def oHs : Vec Ideal S1x8x360 .f32 := fun j => hs B.W (B.T (j 1) (j 2))

end Blocks

/-- Where a trip's store of rows, channels first, lies in the block. -/
theorem emb1 (k : Fin k0_t1_loop.trips) (d : Fin 192) (l : Fin 360) :
    (Rect.unit (s := S8x1x192x360) (k0_off1 k) S1x1x192x360.size (k0_off1_inb k)).emb (ix4 0 0 d l)
      = ix4 (lev k) 0 d l := by
  refine funext fun a => Fin.ext ((Rect.idx_unit_val _ _ _ _ a).trans ?_)
  refine (congrArg (· + _) (congrFun (k0_off1_eq k) a)).trans ?_
  match a with
  | 0 => rfl
  | 1 => rfl
  | 2 => exact Nat.zero_add _
  | 3 => exact Nat.zero_add _

/-- Where a trip's store of scales lies in the block. -/
theorem emb2 (k : Fin k0_t1_loop.trips) (l : Fin 360) :
    (Rect.unit (s := S1x8x360) (k0_off2 k) S1x1x360.size (k0_off2_inb k)).emb (ix3 0 0 l) = ix3 0 (lev k) l := by
  refine funext fun a => Fin.ext ((Rect.idx_unit_val _ _ _ _ a).trans ?_)
  refine (congrArg (· + _) (congrFun (k0_off2_eq k) a)).trans ?_
  match a with
  | 0 => rfl
  | 1 => rfl
  | 2 => exact Nat.zero_add _

/-- Where a trip's store of hidden codes lies in the block. -/
theorem emb3 (k : Fin k0_t1_loop.trips) (l : Fin 360) (j : Fin 768) :
    (Rect.unit (s := S8x1x360x768) (k0_off3 k) S1x1x360x768.size (k0_off3_inb k)).emb (ix4 0 0 l j)
      = ix4 (lev k) 0 l j := by
  refine funext fun a => Fin.ext ((Rect.idx_unit_val _ _ _ _ a).trans ?_)
  refine (congrArg (· + _) (congrFun (k0_off3_eq k) a)).trans ?_
  match a with
  | 0 => rfl
  | 1 => rfl
  | 2 => exact Nat.zero_add _
  | 3 => exact Nat.zero_add _

/-- A list of pieces agrees with a function of the block: each piece holds the function's values at its place. -/
def Fits {s : Shape} {e : EltTy} (L : List (View.Piece (Elt Ideal) s e)) (G : Vec Ideal s e) : Prop :=
  ∀ p ∈ L, ∀ x : p.1.shape.Idx, p.2 x = G (p.1.emb x)

/-- One store that carries the values of `G` fits `G`. -/
theorem Fits.single {s : Shape} {e : EltTy} {G : Vec Ideal s e} (r : Rect s) (w : r.shape.Idx → Elt Ideal e)
    (h : ∀ x, w x = G (r.emb x)) : Fits [⟨r, w⟩] G := fun p hp x => by
  obtain rfl := List.mem_singleton.1 hp
  exact h x

/-- Two lists of stores that fit `G` fit it together. -/
theorem Fits.append {s : Shape} {e : EltTy} {L L' : List (View.Piece (Elt Ideal) s e)} {G : Vec Ideal s e}
    (h : Fits L G) (h' : Fits L' G) : Fits (L ++ L') G := fun q hq => (List.mem_append.1 hq).elim (h q) (h' q)

section Stored
variable (B : Blocks) (k : Fin k0_t1_loop.trips)

/-- A trip's store of the rows of the output carries the block's values. -/
theorem pY_piece (x : S1x1x192x360.Idx) :
    (B.loads k).pY x = B.oY ((Rect.unit (s := S8x1x192x360) (k0_off1 k) S1x1x192x360.size (k0_off1_inb k)).emb x) := by
  idx_vars x
  obtain rfl : x0 = 0 := Subsingleton.elim _ _
  obtain rfl : x1 = 0 := Subsingleton.elim _ _
  rw [emb1, Loads.pY_apply, B.loads_W, B.loads_T]
  rfl

/-- A trip's store of the first codes carries the block's values. -/
theorem pMc_piece (x : S1x1x192x360.Idx) :
    (B.loads k).pMc x
      = B.oMc ((Rect.unit (s := S8x1x192x360) (k0_off1 k) S1x1x192x360.size (k0_off1_inb k)).emb x) := by
  idx_vars x
  obtain rfl : x0 = 0 := Subsingleton.elim _ _
  obtain rfl : x1 = 0 := Subsingleton.elim _ _
  rw [emb1, Loads.pMc_apply, B.loads_W, B.loads_T]
  rfl

/-- A trip's store of the first scales carries the block's values. -/
theorem pMs_piece (x : S1x1x360.Idx) :
    (B.loads k).pMs x = B.oMs ((Rect.unit (s := S1x8x360) (k0_off2 k) S1x1x360.size (k0_off2_inb k)).emb x) := by
  idx_vars x
  obtain rfl : x0 = 0 := Subsingleton.elim _ _
  obtain rfl : x1 = 0 := Subsingleton.elim _ _
  rw [emb2, Loads.pMs_apply, B.loads_W, B.loads_T]
  rfl

/-- A trip's store of the second codes carries the block's values. -/
theorem pHc_piece (x : S1x1x360x768.Idx) :
    (B.loads k).pHc x
      = B.oHc ((Rect.unit (s := S8x1x360x768) (k0_off3 k) S1x1x360x768.size (k0_off3_inb k)).emb x) := by
  idx_vars x
  obtain rfl : x0 = 0 := Subsingleton.elim _ _
  obtain rfl : x1 = 0 := Subsingleton.elim _ _
  rw [emb3, Loads.pHc_apply, B.loads_W, B.loads_T]
  rfl

/-- A trip's store of the second scales carries the block's values. -/
theorem pHs_piece (x : S1x1x360.Idx) :
    (B.loads k).pHs x = B.oHs ((Rect.unit (s := S1x8x360) (k0_off2 k) S1x1x360.size (k0_off2_inb k)).emb x) := by
  idx_vars x
  obtain rfl : x0 = 0 := Subsingleton.elim _ _
  obtain rfl : x1 = 0 := Subsingleton.elim _ _
  rw [emb2, Loads.pHs_apply, B.loads_W, B.loads_T]
  rfl

/-- As a list of one store, the same. -/
theorem pY_fits :
    Fits (s := S8x1x192x360) (e := .bf16) [⟨Rect.unit (k0_off1 k) S1x1x192x360.size (k0_off1_inb k), (B.loads k).pY⟩] B.oY :=
  Fits.single _ _ (pY_piece B k)

/-- As a list of one store, the same. -/
theorem pMc_fits :
    Fits (s := S8x1x192x360) (e := .i8) [⟨Rect.unit (k0_off1 k) S1x1x192x360.size (k0_off1_inb k), (B.loads k).pMc⟩] B.oMc :=
  Fits.single _ _ (pMc_piece B k)

/-- As a list of one store, the same. -/
theorem pMs_fits :
    Fits (s := S1x8x360) (e := .f32) [⟨Rect.unit (k0_off2 k) S1x1x360.size (k0_off2_inb k), (B.loads k).pMs⟩] B.oMs :=
  Fits.single _ _ (pMs_piece B k)

/-- As a list of one store, the same. -/
theorem pHc_fits :
    Fits (s := S8x1x360x768) (e := .i8) [⟨Rect.unit (k0_off3 k) S1x1x360x768.size (k0_off3_inb k), (B.loads k).pHc⟩] B.oHc :=
  Fits.single _ _ (pHc_piece B k)

/-- As a list of one store, the same. -/
theorem pHs_fits :
    Fits (s := S1x8x360) (e := .f32) [⟨Rect.unit (k0_off2 k) S1x1x360.size (k0_off2_inb k), (B.loads k).pHs⟩] B.oHs :=
  Fits.single _ _ (pHs_piece B k)

end Stored

/-- The five lists of pieces agree with the outputs' functions. -/
def Agree (B : Blocks) (L : List (View.Piece (Elt Ideal) S8x1x192x360 .bf16) × List (View.Piece (Elt Ideal) S8x1x192x360 .i8)
      × List (View.Piece (Elt Ideal) S1x8x360 .f32) × List (View.Piece (Elt Ideal) S8x1x360x768 .i8)
      × List (View.Piece (Elt Ideal) S1x8x360 .f32)) : Prop :=
  Fits L.1 B.oY ∧ Fits L.2.1 B.oMc ∧ Fits L.2.2.1 B.oMs ∧ Fits L.2.2.2.1 B.oHc ∧ Fits L.2.2.2.2 B.oHs

/-- No stores agree with every block. -/
theorem Agree.nil (B : Blocks) : Agree B ([], [], [], [], []) :=
  ⟨fun _ h => absurd h List.not_mem_nil, fun _ h => absurd h List.not_mem_nil, fun _ h => absurd h List.not_mem_nil,
    fun _ h => absurd h List.not_mem_nil, fun _ h => absurd h List.not_mem_nil⟩

variable (c : Dev nD) (i : grid0.Coords)
  (arg1 : Memref sig .tc .vmem S8x1x192x360 .bf16) (harg1 : arg1.IsWhole)
  (arg2 : Memref sig .tc .vmem S8x1x192x360 .i8) (harg2 : arg2.IsWhole)
  (arg3 : Memref sig .tc .vmem S1x8x360 .f32) (harg3 : arg3.IsWhole)
  (arg4 : Memref sig .tc .vmem S192x192 .i8) (harg4 : arg4.IsWhole)
  (arg5 : Memref sig .tc .vmem S192x128 .f32) (harg5 : arg5.IsWhole)
  (arg6 : Memref sig .tc .vmem S192x128 .f32) (harg6 : arg6.IsWhole)
  (arg7 : Memref sig .tc .vmem S192x768 .i8) (harg7 : arg7.IsWhole)
  (arg8 : Memref sig .tc .vmem S1x768 .f32) (harg8 : arg8.IsWhole)
  (arg9 : Memref sig .tc .vmem S1x768 .f32) (harg9 : arg9.IsWhole)
  (arg10 : Memref sig .tc .vmem S192x768 .i8) (harg10 : arg10.IsWhole)
  (arg11 : Memref sig .tc .vmem S192x128 .f32) (harg11 : arg11.IsWhole)
  (arg12 : Memref sig .tc .vmem S192x128 .f32) (harg12 : arg12.IsWhole)
  (arg13 : Memref sig .tc .vmem S192x128 .f32) (harg13 : arg13.IsWhole)
  (arg14 : Memref sig .tc .vmem S192x128 .f32) (harg14 : arg14.IsWhole)
  (arg15 : Memref sig .tc .vmem S192x128 .f32) (harg15 : arg15.IsWhole)
  (arg16 : Memref sig .tc .vmem S192x128 .f32) (harg16 : arg16.IsWhole)
  (arg17 : Memref sig .tc .vmem S8x1x192x360 .bf16) (harg17 : arg17.IsWhole)
  (arg18 : Memref sig .tc .vmem S8x1x192x360 .i8) (harg18 : arg18.IsWhole)
  (arg19 : Memref sig .tc .vmem S1x8x360 .f32) (harg19 : arg19.IsWhole)
  (arg20 : Memref sig .tc .vmem S8x1x360x768 .i8) (harg20 : arg20.IsWhole)
  (arg21 : Memref sig .tc .vmem S1x8x360 .f32) (harg21 : arg21.IsWhole)
  (B : Blocks)

/-- The trip at level `k` stores one piece into each output block: that level's rows. -/
theorem trip_eq (k : Fin k0_t1_loop.trips) :
    tripL_k0_t1 Variants.none c none i arg1 harg1 arg2 harg2 arg3 harg3 arg4 harg4 arg5 harg5 arg6 harg6 arg7 harg7
      arg8 harg8 arg9 harg9 arg10 harg10 arg11 harg11 arg12 harg12 arg13 harg13 arg14 harg14 arg15 harg15 arg16 harg16
      arg17 harg17 arg18 harg18 arg19 harg19 arg20 harg20 arg21 harg21 (harg1.unread B.x0) (harg2.unread B.x1)
      (harg3.unread B.x2) (harg4.unread B.x3) (harg5.unread B.x4) (harg6.unread B.x5) (harg7.unread B.x6)
      (harg8.unread B.x7) (harg9.unread B.x8) (harg10.unread B.x9) (harg11.unread B.x10) (harg12.unread B.x11)
      (harg13.unread B.x12) (harg14.unread B.x13) (harg15.unread B.x14) (harg16.unread B.x15) k
      = ([⟨Rect.unit (k0_off1 k) S1x1x192x360.size (k0_off1_inb k), (B.loads k).pY⟩],
         [⟨Rect.unit (k0_off1 k) S1x1x192x360.size (k0_off1_inb k), (B.loads k).pMc⟩],
         [⟨Rect.unit (k0_off2 k) S1x1x360.size (k0_off2_inb k), (B.loads k).pMs⟩],
         [⟨Rect.unit (k0_off3 k) S1x1x360x768.size (k0_off3_inb k), (B.loads k).pHc⟩],
         [⟨Rect.unit (k0_off2 k) S1x1x360.size (k0_off2_inb k), (B.loads k).pHs⟩]) := by
  unfold tripL_k0_t1 trip_k0_t1
  dsimp only
  sl_unfold_run_names
  simp only [View.readAt_eq_ld, Memref.IsWhole.read_unread]
  refine Prod.ext ?_ (Prod.ext ?_ (Prod.ext ?_ (Prod.ext ?_ ?_)))
  · dsimp only; rfl
  · dsimp only; rfl
  · dsimp only; rfl
  · dsimp only; rfl
  · dsimp only; rfl

/-- The pieces of the trips before level `n`. -/
abbrev pieces (n : Nat) :=
  pb_k0_t1 (F := Ideal) Variants.none c none i arg1 harg1 arg2 harg2 arg3 harg3 arg4 harg4 arg5 harg5 arg6 harg6
    arg7 harg7 arg8 harg8 arg9 harg9 arg10 harg10 arg11 harg11 arg12 harg12 arg13 harg13 arg14 harg14 arg15 harg15
    arg16 harg16 arg17 harg17 arg18 harg18 arg19 harg19 arg20 harg20 arg21 harg21 (harg1.unread B.x0) (harg2.unread
    B.x1) (harg3.unread B.x2) (harg4.unread B.x3) (harg5.unread B.x4) (harg6.unread B.x5) (harg7.unread B.x6)
    (harg8.unread B.x7) (harg9.unread B.x8) (harg10.unread B.x9) (harg11.unread B.x10) (harg12.unread B.x11)
    (harg13.unread B.x12) (harg14.unread B.x13) (harg15.unread B.x14) (harg16.unread B.x15) n

/-- The run's pieces for output window 16 are those of all the trips. -/
theorem run_eq_16 :
    (kernelRun0_A (F := Ideal) c i arg1 harg1 arg2 harg2 arg3 harg3 arg4 harg4 arg5 harg5 arg6 harg6 arg7 harg7 arg8
      harg8 arg9 harg9 arg10 harg10 arg11 harg11 arg12 harg12 arg13 harg13 arg14 harg14 arg15 harg15 arg16 harg16
      arg17 harg17 arg18 harg18 arg19 harg19 arg20 harg20 arg21 harg21 B.x0 B.x1 B.x2 B.x3 B.x4 B.x5 B.x6 B.x7 B.x8
      B.x9 B.x10 B.x11 B.x12 B.x13 B.x14 B.x15).1
      = (pieces c i arg1 harg1 arg2 harg2 arg3 harg3 arg4 harg4 arg5 harg5 arg6 harg6 arg7 harg7 arg8 harg8 arg9 harg9
        arg10 harg10 arg11 harg11 arg12 harg12 arg13 harg13 arg14 harg14 arg15 harg15 arg16 harg16 arg17 harg17 arg18
        harg18 arg19 harg19 arg20 harg20 arg21 harg21 B k0_t1_loop.trips).1 := by
  unfold kernelRun0_A
  dsimp only

/-- The run's pieces for output window 17 are those of all the trips. -/
theorem run_eq_17 :
    (kernelRun0_A (F := Ideal) c i arg1 harg1 arg2 harg2 arg3 harg3 arg4 harg4 arg5 harg5 arg6 harg6 arg7 harg7 arg8
      harg8 arg9 harg9 arg10 harg10 arg11 harg11 arg12 harg12 arg13 harg13 arg14 harg14 arg15 harg15 arg16 harg16
      arg17 harg17 arg18 harg18 arg19 harg19 arg20 harg20 arg21 harg21 B.x0 B.x1 B.x2 B.x3 B.x4 B.x5 B.x6 B.x7 B.x8
      B.x9 B.x10 B.x11 B.x12 B.x13 B.x14 B.x15).2.1
      = (pieces c i arg1 harg1 arg2 harg2 arg3 harg3 arg4 harg4 arg5 harg5 arg6 harg6 arg7 harg7 arg8 harg8 arg9 harg9
        arg10 harg10 arg11 harg11 arg12 harg12 arg13 harg13 arg14 harg14 arg15 harg15 arg16 harg16 arg17 harg17 arg18
        harg18 arg19 harg19 arg20 harg20 arg21 harg21 B k0_t1_loop.trips).2.1 := by
  unfold kernelRun0_A
  dsimp only

/-- The run's pieces for output window 18 are those of all the trips. -/
theorem run_eq_18 :
    (kernelRun0_A (F := Ideal) c i arg1 harg1 arg2 harg2 arg3 harg3 arg4 harg4 arg5 harg5 arg6 harg6 arg7 harg7 arg8
      harg8 arg9 harg9 arg10 harg10 arg11 harg11 arg12 harg12 arg13 harg13 arg14 harg14 arg15 harg15 arg16 harg16
      arg17 harg17 arg18 harg18 arg19 harg19 arg20 harg20 arg21 harg21 B.x0 B.x1 B.x2 B.x3 B.x4 B.x5 B.x6 B.x7 B.x8
      B.x9 B.x10 B.x11 B.x12 B.x13 B.x14 B.x15).2.2.1
      = (pieces c i arg1 harg1 arg2 harg2 arg3 harg3 arg4 harg4 arg5 harg5 arg6 harg6 arg7 harg7 arg8 harg8 arg9 harg9
        arg10 harg10 arg11 harg11 arg12 harg12 arg13 harg13 arg14 harg14 arg15 harg15 arg16 harg16 arg17 harg17 arg18
        harg18 arg19 harg19 arg20 harg20 arg21 harg21 B k0_t1_loop.trips).2.2.1 := by
  unfold kernelRun0_A
  dsimp only

/-- The run's pieces for output window 19 are those of all the trips. -/
theorem run_eq_19 :
    (kernelRun0_A (F := Ideal) c i arg1 harg1 arg2 harg2 arg3 harg3 arg4 harg4 arg5 harg5 arg6 harg6 arg7 harg7 arg8
      harg8 arg9 harg9 arg10 harg10 arg11 harg11 arg12 harg12 arg13 harg13 arg14 harg14 arg15 harg15 arg16 harg16
      arg17 harg17 arg18 harg18 arg19 harg19 arg20 harg20 arg21 harg21 B.x0 B.x1 B.x2 B.x3 B.x4 B.x5 B.x6 B.x7 B.x8
      B.x9 B.x10 B.x11 B.x12 B.x13 B.x14 B.x15).2.2.2.1
      = (pieces c i arg1 harg1 arg2 harg2 arg3 harg3 arg4 harg4 arg5 harg5 arg6 harg6 arg7 harg7 arg8 harg8 arg9 harg9
        arg10 harg10 arg11 harg11 arg12 harg12 arg13 harg13 arg14 harg14 arg15 harg15 arg16 harg16 arg17 harg17 arg18
        harg18 arg19 harg19 arg20 harg20 arg21 harg21 B k0_t1_loop.trips).2.2.2.1 := by
  unfold kernelRun0_A
  dsimp only

/-- The run's pieces for output window 20 are those of all the trips. -/
theorem run_eq_20 :
    (kernelRun0_A (F := Ideal) c i arg1 harg1 arg2 harg2 arg3 harg3 arg4 harg4 arg5 harg5 arg6 harg6 arg7 harg7 arg8
      harg8 arg9 harg9 arg10 harg10 arg11 harg11 arg12 harg12 arg13 harg13 arg14 harg14 arg15 harg15 arg16 harg16
      arg17 harg17 arg18 harg18 arg19 harg19 arg20 harg20 arg21 harg21 B.x0 B.x1 B.x2 B.x3 B.x4 B.x5 B.x6 B.x7 B.x8
      B.x9 B.x10 B.x11 B.x12 B.x13 B.x14 B.x15).2.2.2.2.1
      = (pieces c i arg1 harg1 arg2 harg2 arg3 harg3 arg4 harg4 arg5 harg5 arg6 harg6 arg7 harg7 arg8 harg8 arg9 harg9
        arg10 harg10 arg11 harg11 arg12 harg12 arg13 harg13 arg14 harg14 arg15 harg15 arg16 harg16 arg17 harg17 arg18
        harg18 arg19 harg19 arg20 harg20 arg21 harg21 B k0_t1_loop.trips).2.2.2.2 := by
  unfold kernelRun0_A
  dsimp only

/-- Every piece stored before level `n` agrees with the outputs' functions. -/
theorem pieces_agree (n : Nat) (hn : n ≤ k0_t1_loop.trips) :
    Agree B (pieces c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 arg20 harg20 arg21 harg21 B n) := by
  induction n with
  | zero => exact Agree.nil B
  | succ n ih =>
    have h := ih (Nat.le_of_succ_le hn)
    rw [pieces, pb_k0_t1_succ Variants.none c none i arg1 harg1 arg2 harg2 arg3 harg3 arg4 harg4 arg5 harg5 arg6 harg6 arg7
      harg7 arg8 harg8 arg9 harg9 arg10 harg10 arg11 harg11 arg12 harg12 arg13 harg13 arg14 harg14 arg15 harg15 arg16
      harg16 arg17 harg17 arg18 harg18 arg19 harg19 arg20 harg20 arg21 harg21 (harg1.unread B.x0) (harg2.unread B.x1)
      (harg3.unread B.x2) (harg4.unread B.x3) (harg5.unread B.x4) (harg6.unread B.x5) (harg7.unread B.x6)
      (harg8.unread B.x7) (harg9.unread B.x8) (harg10.unread B.x9) (harg11.unread B.x10) (harg12.unread B.x11)
      (harg13.unread B.x12) (harg14.unread B.x13) (harg15.unread B.x14) (harg16.unread B.x15) ⟨n, hn⟩, trip_eq]
    exact ⟨(pY_fits B ⟨n, hn⟩).append h.1, (pMc_fits B ⟨n, hn⟩).append h.2.1, (pMs_fits B ⟨n, hn⟩).append h.2.2.1,
      (pHc_fits B ⟨n, hn⟩).append h.2.2.2.1, (pHs_fits B ⟨n, hn⟩).append h.2.2.2.2⟩

/-- Output window 16's block after the body. -/
theorem out_16 :
    out0_A_16 (F := Ideal) c i arg1 harg1 arg2 harg2 arg3 harg3 arg4 harg4 arg5 harg5 arg6 harg6 arg7 harg7 arg8
      harg8 arg9 harg9 arg10 harg10 arg11 harg11 arg12 harg12 arg13 harg13 arg14 harg14 arg15 harg15 arg16 harg16
      arg17 harg17 arg18 harg18 arg19 harg19 arg20 harg20 arg21 harg21 B.x0 B.x1 B.x2 B.x3 B.x4 B.x5 B.x6 B.x7 B.x8
      B.x9 B.x10 B.x11 B.x12 B.x13 B.x14 B.x15
      = B.oY := by
  funext j
  refine View.read_writes_apply_of_pieces VO0_16 VO0_16.junk B.oY _ ?_ j ?_
  · rw [run_eq_16]
    exact (pieces_agree c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 arg20 harg20 arg21 harg21 B k0_t1_loop.trips le_rfl).1
  · exact cover0_A_16 c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 arg20 harg20 arg21 harg21 B.x0 B.x1 B.x2 B.x3 B.x4 B.x5 B.x6 B.x7 B.x8 B.x9 B.x10
      B.x11 B.x12 B.x13 B.x14 B.x15 j

/-- Output window 17's block after the body. -/
theorem out_17 :
    out0_A_17 (F := Ideal) c i arg1 harg1 arg2 harg2 arg3 harg3 arg4 harg4 arg5 harg5 arg6 harg6 arg7 harg7 arg8
      harg8 arg9 harg9 arg10 harg10 arg11 harg11 arg12 harg12 arg13 harg13 arg14 harg14 arg15 harg15 arg16 harg16
      arg17 harg17 arg18 harg18 arg19 harg19 arg20 harg20 arg21 harg21 B.x0 B.x1 B.x2 B.x3 B.x4 B.x5 B.x6 B.x7 B.x8
      B.x9 B.x10 B.x11 B.x12 B.x13 B.x14 B.x15
      = B.oMc := by
  funext j
  refine View.read_writes_apply_of_pieces VO0_17 VO0_17.junk B.oMc _ ?_ j ?_
  · rw [run_eq_17]
    exact (pieces_agree c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 arg20 harg20 arg21 harg21 B k0_t1_loop.trips le_rfl).2.1
  · exact cover0_A_17 c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 arg20 harg20 arg21 harg21 B.x0 B.x1 B.x2 B.x3 B.x4 B.x5 B.x6 B.x7 B.x8 B.x9 B.x10
      B.x11 B.x12 B.x13 B.x14 B.x15 j

/-- Output window 18's block after the body. -/
theorem out_18 :
    out0_A_18 (F := Ideal) c i arg1 harg1 arg2 harg2 arg3 harg3 arg4 harg4 arg5 harg5 arg6 harg6 arg7 harg7 arg8
      harg8 arg9 harg9 arg10 harg10 arg11 harg11 arg12 harg12 arg13 harg13 arg14 harg14 arg15 harg15 arg16 harg16
      arg17 harg17 arg18 harg18 arg19 harg19 arg20 harg20 arg21 harg21 B.x0 B.x1 B.x2 B.x3 B.x4 B.x5 B.x6 B.x7 B.x8
      B.x9 B.x10 B.x11 B.x12 B.x13 B.x14 B.x15
      = B.oMs := by
  funext j
  refine View.read_writes_apply_of_pieces VO0_18 VO0_18.junk B.oMs _ ?_ j ?_
  · rw [run_eq_18]
    exact (pieces_agree c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 arg20 harg20 arg21 harg21 B k0_t1_loop.trips le_rfl).2.2.1
  · exact cover0_A_18 c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 arg20 harg20 arg21 harg21 B.x0 B.x1 B.x2 B.x3 B.x4 B.x5 B.x6 B.x7 B.x8 B.x9 B.x10
      B.x11 B.x12 B.x13 B.x14 B.x15 j

/-- Output window 19's block after the body. -/
theorem out_19 :
    out0_A_19 (F := Ideal) c i arg1 harg1 arg2 harg2 arg3 harg3 arg4 harg4 arg5 harg5 arg6 harg6 arg7 harg7 arg8
      harg8 arg9 harg9 arg10 harg10 arg11 harg11 arg12 harg12 arg13 harg13 arg14 harg14 arg15 harg15 arg16 harg16
      arg17 harg17 arg18 harg18 arg19 harg19 arg20 harg20 arg21 harg21 B.x0 B.x1 B.x2 B.x3 B.x4 B.x5 B.x6 B.x7 B.x8
      B.x9 B.x10 B.x11 B.x12 B.x13 B.x14 B.x15
      = B.oHc := by
  funext j
  refine View.read_writes_apply_of_pieces VO0_19 VO0_19.junk B.oHc _ ?_ j ?_
  · rw [run_eq_19]
    exact (pieces_agree c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 arg20 harg20 arg21 harg21 B k0_t1_loop.trips le_rfl).2.2.2.1
  · exact cover0_A_19 c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 arg20 harg20 arg21 harg21 B.x0 B.x1 B.x2 B.x3 B.x4 B.x5 B.x6 B.x7 B.x8 B.x9 B.x10
      B.x11 B.x12 B.x13 B.x14 B.x15 j

/-- Output window 20's block after the body. -/
theorem out_20 :
    out0_A_20 (F := Ideal) c i arg1 harg1 arg2 harg2 arg3 harg3 arg4 harg4 arg5 harg5 arg6 harg6 arg7 harg7 arg8
      harg8 arg9 harg9 arg10 harg10 arg11 harg11 arg12 harg12 arg13 harg13 arg14 harg14 arg15 harg15 arg16 harg16
      arg17 harg17 arg18 harg18 arg19 harg19 arg20 harg20 arg21 harg21 B.x0 B.x1 B.x2 B.x3 B.x4 B.x5 B.x6 B.x7 B.x8
      B.x9 B.x10 B.x11 B.x12 B.x13 B.x14 B.x15
      = B.oHs := by
  funext j
  refine View.read_writes_apply_of_pieces VO0_20 VO0_20.junk B.oHs _ ?_ j ?_
  · rw [run_eq_20]
    exact (pieces_agree c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 arg20 harg20 arg21 harg21 B k0_t1_loop.trips le_rfl).2.2.2.2
  · exact cover0_A_20 c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 arg20 harg20 arg21 harg21 B.x0 B.x1 B.x2 B.x3 B.x4 B.x5 B.x6 B.x7 B.x8 B.x9 B.x10
      B.x11 B.x12 B.x13 B.x14 B.x15 j

section

variable (x0 : Vec Ideal S8x1x192x360 .bf16)
  (x1 : Vec Ideal S8x1x192x360 .i8)
  (x2 : Vec Ideal S1x8x360 .f32)
  (x3 : Vec Ideal S192x192 .i8)
  (x4 : Vec Ideal S192x128 .f32)
  (x5 : Vec Ideal S192x128 .f32)
  (x6 : Vec Ideal S192x768 .i8)
  (x7 : Vec Ideal S1x768 .f32)
  (x8 : Vec Ideal S1x768 .f32)
  (x9 : Vec Ideal S192x768 .i8)
  (x10 : Vec Ideal S192x128 .f32)
  (x11 : Vec Ideal S192x128 .f32)
  (x12 : Vec Ideal S192x128 .f32)
  (x13 : Vec Ideal S192x128 .f32)
  (x14 : Vec Ideal S192x128 .f32)
  (x15 : Vec Ideal S192x128 .f32)

/-- The same of blocks given one by one. -/
theorem out_blk_16 :
    out0_A_16 (F := Ideal) c i arg1 harg1 arg2 harg2 arg3 harg3 arg4 harg4 arg5 harg5 arg6 harg6 arg7 harg7 arg8
      harg8 arg9 harg9 arg10 harg10 arg11 harg11 arg12 harg12 arg13 harg13 arg14 harg14 arg15 harg15 arg16 harg16
      arg17 harg17 arg18 harg18 arg19 harg19 arg20 harg20 arg21 harg21 x0 x1 x2 x3 x4 x5 x6 x7 x8 x9 x10 x11 x12 x13
      x14 x15
      = (Blocks.mk x0 x1 x2 x3 x4 x5 x6 x7 x8 x9 x10 x11 x12 x13 x14 x15).oY :=
  out_16 c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18
    harg18 arg19 harg19 arg20 harg20 arg21 harg21 (Blocks.mk x0 x1 x2 x3 x4 x5 x6 x7 x8 x9 x10 x11 x12 x13 x14 x15)

/-- The same of blocks given one by one. -/
theorem out_blk_17 :
    out0_A_17 (F := Ideal) c i arg1 harg1 arg2 harg2 arg3 harg3 arg4 harg4 arg5 harg5 arg6 harg6 arg7 harg7 arg8
      harg8 arg9 harg9 arg10 harg10 arg11 harg11 arg12 harg12 arg13 harg13 arg14 harg14 arg15 harg15 arg16 harg16
      arg17 harg17 arg18 harg18 arg19 harg19 arg20 harg20 arg21 harg21 x0 x1 x2 x3 x4 x5 x6 x7 x8 x9 x10 x11 x12 x13
      x14 x15
      = (Blocks.mk x0 x1 x2 x3 x4 x5 x6 x7 x8 x9 x10 x11 x12 x13 x14 x15).oMc :=
  out_17 c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18
    harg18 arg19 harg19 arg20 harg20 arg21 harg21 (Blocks.mk x0 x1 x2 x3 x4 x5 x6 x7 x8 x9 x10 x11 x12 x13 x14 x15)

/-- The same of blocks given one by one. -/
theorem out_blk_18 :
    out0_A_18 (F := Ideal) c i arg1 harg1 arg2 harg2 arg3 harg3 arg4 harg4 arg5 harg5 arg6 harg6 arg7 harg7 arg8
      harg8 arg9 harg9 arg10 harg10 arg11 harg11 arg12 harg12 arg13 harg13 arg14 harg14 arg15 harg15 arg16 harg16
      arg17 harg17 arg18 harg18 arg19 harg19 arg20 harg20 arg21 harg21 x0 x1 x2 x3 x4 x5 x6 x7 x8 x9 x10 x11 x12 x13
      x14 x15
      = (Blocks.mk x0 x1 x2 x3 x4 x5 x6 x7 x8 x9 x10 x11 x12 x13 x14 x15).oMs :=
  out_18 c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18
    harg18 arg19 harg19 arg20 harg20 arg21 harg21 (Blocks.mk x0 x1 x2 x3 x4 x5 x6 x7 x8 x9 x10 x11 x12 x13 x14 x15)

/-- The same of blocks given one by one. -/
theorem out_blk_19 :
    out0_A_19 (F := Ideal) c i arg1 harg1 arg2 harg2 arg3 harg3 arg4 harg4 arg5 harg5 arg6 harg6 arg7 harg7 arg8
      harg8 arg9 harg9 arg10 harg10 arg11 harg11 arg12 harg12 arg13 harg13 arg14 harg14 arg15 harg15 arg16 harg16
      arg17 harg17 arg18 harg18 arg19 harg19 arg20 harg20 arg21 harg21 x0 x1 x2 x3 x4 x5 x6 x7 x8 x9 x10 x11 x12 x13
      x14 x15
      = (Blocks.mk x0 x1 x2 x3 x4 x5 x6 x7 x8 x9 x10 x11 x12 x13 x14 x15).oHc :=
  out_19 c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18
    harg18 arg19 harg19 arg20 harg20 arg21 harg21 (Blocks.mk x0 x1 x2 x3 x4 x5 x6 x7 x8 x9 x10 x11 x12 x13 x14 x15)

/-- The same of blocks given one by one. -/
theorem out_blk_20 :
    out0_A_20 (F := Ideal) c i arg1 harg1 arg2 harg2 arg3 harg3 arg4 harg4 arg5 harg5 arg6 harg6 arg7 harg7 arg8
      harg8 arg9 harg9 arg10 harg10 arg11 harg11 arg12 harg12 arg13 harg13 arg14 harg14 arg15 harg15 arg16 harg16
      arg17 harg17 arg18 harg18 arg19 harg19 arg20 harg20 arg21 harg21 x0 x1 x2 x3 x4 x5 x6 x7 x8 x9 x10 x11 x12 x13
      x14 x15
      = (Blocks.mk x0 x1 x2 x3 x4 x5 x6 x7 x8 x9 x10 x11 x12 x13 x14 x15).oHs :=
  out_20 c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18
    harg18 arg19 harg19 arg20 harg20 arg21 harg21 (Blocks.mk x0 x1 x2 x3 x4 x5 x6 x7 x8 x9 x10 x11 x12 x13 x14 x15)

end

end Cert.KernelIdeal.Hand

end
-- ==== Proof.Arrays.lean ====
/-
  The kernel's five result arrays after the run: at every index the function of the argument arrays.

  The grid has one point per latitude. Its input blocks are the arguments' rows at that latitude, so what the point
  writes back is that latitude's part of the result, and the 90 points' parts fill the array.
-/
module

public import proofs.«01_k».proof.Proof.Spec
public import proofs.«01_k».proof.Proof.Entry
public import proofs.«01_k».proof.Proof.Pieces
public import proofs.«01_k».proof.Proof.Gen.KernelIdeal.Value

@[expose] public section

set_option maxRecDepth 16384

noncomputable section

namespace Cert.KernelIdeal.Hand

open Idealize Idealize.ShloMosaic Idealize.ShloMosaic.TcCoe Idealize.SL.Sem
open Cert.KernelIdeal Cert.KernelIdeal.Gen
open Cert.Mlp

variable (m : (ℓ : Loc nD τ sig) → Buf (Elt Ideal) ℓ) (c : Dev nD)

/-- The arguments on device `c`. -/
def args : Args where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a9 := m ((c : Thread nD τ).loc main_arg9)
  a10 := m ((c : Thread nD τ).loc main_arg10)
  a11 := m ((c : Thread nD τ).loc main_arg11)
  a12 := m ((c : Thread nD τ).loc main_arg12)
  a13 := m ((c : Thread nD τ).loc main_arg13)
  a14 := m ((c : Thread nD τ).loc main_arg14)
  a15 := m ((c : Thread nD τ).loc main_arg15)

/-- The input blocks at point `t`. -/
def blocksAt (t : Fin cfg0.N) : Blocks where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  x15 := iblk m c 15 t

/-- The latitude of a point. -/
def lat (t : Fin cfg0.N) : Fin 90 := ⟨t.val, t.isLt⟩

/-- The block index of window 0 (the input) at every point. -/
theorem index_0 : ∀ t : Fin grid0.N, win0_0.index t 0 = 0 ∧ win0_0.index t 1 = t.val ∧ win0_0.index t 2 = 0 ∧ win0_0.index t 3 = 0 := by decide +kernel
/-- The block index of window 1 (the attention codes) at every point. -/
theorem index_1 : ∀ t : Fin grid0.N, win0_1.index t 0 = 0 ∧ win0_1.index t 1 = t.val ∧ win0_1.index t 2 = 0 ∧ win0_1.index t 3 = 0 := by decide +kernel
/-- The block index of window 16 (the output) at every point. -/
theorem index_16 : ∀ t : Fin grid0.N, win0_16.index t 0 = 0 ∧ win0_16.index t 1 = t.val ∧ win0_16.index t 2 = 0 ∧ win0_16.index t 3 = 0 := by decide +kernel
/-- The block index of window 17 (the first codes) at every point. -/
theorem index_17 : ∀ t : Fin grid0.N, win0_17.index t 0 = 0 ∧ win0_17.index t 1 = t.val ∧ win0_17.index t 2 = 0 ∧ win0_17.index t 3 = 0 := by decide +kernel
/-- The block index of window 19 (the second codes) at every point. -/
theorem index_19 : ∀ t : Fin grid0.N, win0_19.index t 0 = 0 ∧ win0_19.index t 1 = t.val ∧ win0_19.index t 2 = 0 ∧ win0_19.index t 3 = 0 := by decide +kernel
/-- The block index of window 2 (the attention scales) at every point. -/
theorem index_2 : ∀ t : Fin grid0.N, win0_2.index t 0 = t.val ∧ win0_2.index t 1 = 0 ∧ win0_2.index t 2 = 0 := by decide +kernel
/-- The block index of window 18 (the first scales) at every point. -/
theorem index_18 : ∀ t : Fin grid0.N, win0_18.index t 0 = t.val ∧ win0_18.index t 1 = 0 ∧ win0_18.index t 2 = 0 := by decide +kernel
/-- The block index of window 20 (the second scales) at every point. -/
theorem index_20 : ∀ t : Fin grid0.N, win0_20.index t 0 = t.val ∧ win0_20.index t 1 = 0 ∧ win0_20.index t 2 = 0 := by decide +kernel
/-- The block index of window 3 (the projection's codes) at every point. -/
theorem index_3 : ∀ t : Fin grid0.N, win0_3.index t 0 = 0 ∧ win0_3.index t 1 = 0 := by decide +kernel
/-- The block index of window 4 (the projection's column scales) at every point. -/
theorem index_4 : ∀ t : Fin grid0.N, win0_4.index t 0 = 0 ∧ win0_4.index t 1 = 0 := by decide +kernel
/-- The block index of window 5 (the projection's offsets) at every point. -/
theorem index_5 : ∀ t : Fin grid0.N, win0_5.index t 0 = 0 ∧ win0_5.index t 1 = 0 := by decide +kernel
/-- The block index of window 6 (the first layer's codes) at every point. -/
theorem index_6 : ∀ t : Fin grid0.N, win0_6.index t 0 = 0 ∧ win0_6.index t 1 = 0 := by decide +kernel
/-- The block index of window 7 (the first layer's column scales) at every point. -/
theorem index_7 : ∀ t : Fin grid0.N, win0_7.index t 0 = 0 ∧ win0_7.index t 1 = 0 := by decide +kernel
/-- The block index of window 8 (the first layer's offsets) at every point. -/
theorem index_8 : ∀ t : Fin grid0.N, win0_8.index t 0 = 0 ∧ win0_8.index t 1 = 0 := by decide +kernel
/-- The block index of window 9 (the second layer's codes) at every point. -/
theorem index_9 : ∀ t : Fin grid0.N, win0_9.index t 0 = 0 ∧ win0_9.index t 1 = 0 := by decide +kernel
/-- The block index of window 10 (the second layer's column scales) at every point. -/
theorem index_10 : ∀ t : Fin grid0.N, win0_10.index t 0 = 0 ∧ win0_10.index t 1 = 0 := by decide +kernel
/-- The block index of window 11 (the second layer's offsets) at every point. -/
theorem index_11 : ∀ t : Fin grid0.N, win0_11.index t 0 = 0 ∧ win0_11.index t 1 = 0 := by decide +kernel
/-- The block index of window 12 (the first normalisation's gain) at every point. -/
theorem index_12 : ∀ t : Fin grid0.N, win0_12.index t 0 = 0 ∧ win0_12.index t 1 = 0 := by decide +kernel
/-- The block index of window 13 (the first normalisation's offset) at every point. -/
theorem index_13 : ∀ t : Fin grid0.N, win0_13.index t 0 = 0 ∧ win0_13.index t 1 = 0 := by decide +kernel
/-- The block index of window 14 (the second normalisation's gain) at every point. -/
theorem index_14 : ∀ t : Fin grid0.N, win0_14.index t 0 = 0 ∧ win0_14.index t 1 = 0 := by decide +kernel
/-- The block index of window 15 (the second normalisation's offset) at every point. -/
theorem index_15 : ∀ t : Fin grid0.N, win0_15.index t 0 = 0 ∧ win0_15.index t 1 = 0 := by decide +kernel

/-- Where an index of window 0's block (the input) lies in its array. -/
theorem emb_0 (t : Fin cfg0.N) (k : Fin 8) (d : Fin 192) (l : Fin 360) :
    ((cfg0.win 0).blk t).view.emb (ix4 k 0 d l) = ix4 k (lat t) d l := by
  obtain ⟨e0, e1, e2, e3⟩ := index_0 t
  funext a; apply Fin.ext
  match a with
  | ⟨0, _⟩ => show win0_0.index t (0 : Fin 4) * 8 + 1 * k.val = k.val; omega
  | ⟨1, _⟩ => show win0_0.index t (1 : Fin 4) * 1 + 1 * 0 = t.val; omega
  | ⟨2, _⟩ => show win0_0.index t (2 : Fin 4) * 192 + 1 * d.val = d.val; omega
  | ⟨3, _⟩ => show win0_0.index t (3 : Fin 4) * 360 + 1 * l.val = l.val; omega

/-- Where an index of window 1's block (the attention codes) lies in its array. -/
theorem emb_1 (t : Fin cfg0.N) (k : Fin 8) (d : Fin 192) (l : Fin 360) :
    ((cfg0.win 1).blk t).view.emb (ix4 k 0 d l) = ix4 k (lat t) d l := by
  obtain ⟨e0, e1, e2, e3⟩ := index_1 t
  funext a; apply Fin.ext
  match a with
  | ⟨0, _⟩ => show win0_1.index t (0 : Fin 4) * 8 + 1 * k.val = k.val; omega
  | ⟨1, _⟩ => show win0_1.index t (1 : Fin 4) * 1 + 1 * 0 = t.val; omega
  | ⟨2, _⟩ => show win0_1.index t (2 : Fin 4) * 192 + 1 * d.val = d.val; omega
  | ⟨3, _⟩ => show win0_1.index t (3 : Fin 4) * 360 + 1 * l.val = l.val; omega

/-- Where an index of window 16's block (the output) lies in its array. -/
theorem emb_16 (t : Fin cfg0.N) (k : Fin 8) (d : Fin 192) (l : Fin 360) :
    ((cfg0.win 16).blk t).view.emb (ix4 k 0 d l) = ix4 k (lat t) d l := by
  obtain ⟨e0, e1, e2, e3⟩ := index_16 t
  funext a; apply Fin.ext
  match a with
  | ⟨0, _⟩ => show win0_16.index t (0 : Fin 4) * 8 + 1 * k.val = k.val; omega
  | ⟨1, _⟩ => show win0_16.index t (1 : Fin 4) * 1 + 1 * 0 = t.val; omega
  | ⟨2, _⟩ => show win0_16.index t (2 : Fin 4) * 192 + 1 * d.val = d.val; omega
  | ⟨3, _⟩ => show win0_16.index t (3 : Fin 4) * 360 + 1 * l.val = l.val; omega

/-- Where an index of window 17's block (the first codes) lies in its array. -/
theorem emb_17 (t : Fin cfg0.N) (k : Fin 8) (d : Fin 192) (l : Fin 360) :
    ((cfg0.win 17).blk t).view.emb (ix4 k 0 d l) = ix4 k (lat t) d l := by
  obtain ⟨e0, e1, e2, e3⟩ := index_17 t
  funext a; apply Fin.ext
  match a with
  | ⟨0, _⟩ => show win0_17.index t (0 : Fin 4) * 8 + 1 * k.val = k.val; omega
  | ⟨1, _⟩ => show win0_17.index t (1 : Fin 4) * 1 + 1 * 0 = t.val; omega
  | ⟨2, _⟩ => show win0_17.index t (2 : Fin 4) * 192 + 1 * d.val = d.val; omega
  | ⟨3, _⟩ => show win0_17.index t (3 : Fin 4) * 360 + 1 * l.val = l.val; omega

/-- Where an index of window 19's block (the second codes) lies in its array. -/
theorem emb_19 (t : Fin cfg0.N) (k : Fin 8) (d : Fin 360) (l : Fin 768) :
    ((cfg0.win 19).blk t).view.emb (ix4 k 0 d l) = ix4 k (lat t) d l := by
  obtain ⟨e0, e1, e2, e3⟩ := index_19 t
  funext a; apply Fin.ext
  match a with
  | ⟨0, _⟩ => show win0_19.index t (0 : Fin 4) * 8 + 1 * k.val = k.val; omega
  | ⟨1, _⟩ => show win0_19.index t (1 : Fin 4) * 1 + 1 * 0 = t.val; omega
  | ⟨2, _⟩ => show win0_19.index t (2 : Fin 4) * 360 + 1 * d.val = d.val; omega
  | ⟨3, _⟩ => show win0_19.index t (3 : Fin 4) * 768 + 1 * l.val = l.val; omega

/-- Where an index of window 2's block (the attention scales) lies in its array. -/
theorem emb_2 (t : Fin cfg0.N) (k : Fin 8) (l : Fin 360) :
    ((cfg0.win 2).blk t).view.emb (ix3 0 k l) = ix3 (lat t) k l := by
  obtain ⟨e0, e1, e2⟩ := index_2 t
  funext a; apply Fin.ext
  match a with
  | ⟨0, _⟩ => show win0_2.index t (0 : Fin 3) * 1 + 1 * 0 = t.val; omega
  | ⟨1, _⟩ => show win0_2.index t (1 : Fin 3) * 8 + 1 * k.val = k.val; omega
  | ⟨2, _⟩ => show win0_2.index t (2 : Fin 3) * 360 + 1 * l.val = l.val; omega

/-- Where an index of window 18's block (the first scales) lies in its array. -/
theorem emb_18 (t : Fin cfg0.N) (k : Fin 8) (l : Fin 360) :
    ((cfg0.win 18).blk t).view.emb (ix3 0 k l) = ix3 (lat t) k l := by
  obtain ⟨e0, e1, e2⟩ := index_18 t
  funext a; apply Fin.ext
  match a with
  | ⟨0, _⟩ => show win0_18.index t (0 : Fin 3) * 1 + 1 * 0 = t.val; omega
  | ⟨1, _⟩ => show win0_18.index t (1 : Fin 3) * 8 + 1 * k.val = k.val; omega
  | ⟨2, _⟩ => show win0_18.index t (2 : Fin 3) * 360 + 1 * l.val = l.val; omega

/-- Where an index of window 20's block (the second scales) lies in its array. -/
theorem emb_20 (t : Fin cfg0.N) (k : Fin 8) (l : Fin 360) :
    ((cfg0.win 20).blk t).view.emb (ix3 0 k l) = ix3 (lat t) k l := by
  obtain ⟨e0, e1, e2⟩ := index_20 t
  funext a; apply Fin.ext
  match a with
  | ⟨0, _⟩ => show win0_20.index t (0 : Fin 3) * 1 + 1 * 0 = t.val; omega
  | ⟨1, _⟩ => show win0_20.index t (1 : Fin 3) * 8 + 1 * k.val = k.val; omega
  | ⟨2, _⟩ => show win0_20.index t (2 : Fin 3) * 360 + 1 * l.val = l.val; omega

/-- Where an index of window 3's block (the projection's codes) lies in its array. -/
theorem emb_3 (t : Fin cfg0.N) (a : Fin 192) (b : Fin 192) :
    ((cfg0.win 3).blk t).view.emb (ix2 a b) = ix2 a b := by
  obtain ⟨e0, e1⟩ := index_3 t
  funext s; apply Fin.ext
  match s with
  | ⟨0, _⟩ => show win0_3.index t (0 : Fin 2) * 192 + 1 * a.val = a.val; omega
  | ⟨1, _⟩ => show win0_3.index t (1 : Fin 2) * 192 + 1 * b.val = b.val; omega

/-- Where an index of window 4's block (the projection's column scales) lies in its array. -/
theorem emb_4 (t : Fin cfg0.N) (a : Fin 192) (b : Fin 128) :
    ((cfg0.win 4).blk t).view.emb (ix2 a b) = ix2 a b := by
  obtain ⟨e0, e1⟩ := index_4 t
  funext s; apply Fin.ext
  match s with
  | ⟨0, _⟩ => show win0_4.index t (0 : Fin 2) * 192 + 1 * a.val = a.val; omega
  | ⟨1, _⟩ => show win0_4.index t (1 : Fin 2) * 128 + 1 * b.val = b.val; omega

/-- Where an index of window 5's block (the projection's offsets) lies in its array. -/
theorem emb_5 (t : Fin cfg0.N) (a : Fin 192) (b : Fin 128) :
    ((cfg0.win 5).blk t).view.emb (ix2 a b) = ix2 a b := by
  obtain ⟨e0, e1⟩ := index_5 t
  funext s; apply Fin.ext
  match s with
  | ⟨0, _⟩ => show win0_5.index t (0 : Fin 2) * 192 + 1 * a.val = a.val; omega
  | ⟨1, _⟩ => show win0_5.index t (1 : Fin 2) * 128 + 1 * b.val = b.val; omega

/-- Where an index of window 6's block (the first layer's codes) lies in its array. -/
theorem emb_6 (t : Fin cfg0.N) (a : Fin 192) (b : Fin 768) :
    ((cfg0.win 6).blk t).view.emb (ix2 a b) = ix2 a b := by
  obtain ⟨e0, e1⟩ := index_6 t
  funext s; apply Fin.ext
  match s with
  | ⟨0, _⟩ => show win0_6.index t (0 : Fin 2) * 192 + 1 * a.val = a.val; omega
  | ⟨1, _⟩ => show win0_6.index t (1 : Fin 2) * 768 + 1 * b.val = b.val; omega

/-- Where an index of window 7's block (the first layer's column scales) lies in its array. -/
theorem emb_7 (t : Fin cfg0.N) (a : Fin 1) (b : Fin 768) :
    ((cfg0.win 7).blk t).view.emb (ix2 a b) = ix2 a b := by
  obtain ⟨e0, e1⟩ := index_7 t
  funext s; apply Fin.ext
  match s with
  | ⟨0, _⟩ => show win0_7.index t (0 : Fin 2) * 1 + 1 * a.val = a.val; omega
  | ⟨1, _⟩ => show win0_7.index t (1 : Fin 2) * 768 + 1 * b.val = b.val; omega

/-- Where an index of window 8's block (the first layer's offsets) lies in its array. -/
theorem emb_8 (t : Fin cfg0.N) (a : Fin 1) (b : Fin 768) :
    ((cfg0.win 8).blk t).view.emb (ix2 a b) = ix2 a b := by
  obtain ⟨e0, e1⟩ := index_8 t
  funext s; apply Fin.ext
  match s with
  | ⟨0, _⟩ => show win0_8.index t (0 : Fin 2) * 1 + 1 * a.val = a.val; omega
  | ⟨1, _⟩ => show win0_8.index t (1 : Fin 2) * 768 + 1 * b.val = b.val; omega

/-- Where an index of window 9's block (the second layer's codes) lies in its array. -/
theorem emb_9 (t : Fin cfg0.N) (a : Fin 192) (b : Fin 768) :
    ((cfg0.win 9).blk t).view.emb (ix2 a b) = ix2 a b := by
  obtain ⟨e0, e1⟩ := index_9 t
  funext s; apply Fin.ext
  match s with
  | ⟨0, _⟩ => show win0_9.index t (0 : Fin 2) * 192 + 1 * a.val = a.val; omega
  | ⟨1, _⟩ => show win0_9.index t (1 : Fin 2) * 768 + 1 * b.val = b.val; omega

/-- Where an index of window 10's block (the second layer's column scales) lies in its array. -/
theorem emb_10 (t : Fin cfg0.N) (a : Fin 192) (b : Fin 128) :
    ((cfg0.win 10).blk t).view.emb (ix2 a b) = ix2 a b := by
  obtain ⟨e0, e1⟩ := index_10 t
  funext s; apply Fin.ext
  match s with
  | ⟨0, _⟩ => show win0_10.index t (0 : Fin 2) * 192 + 1 * a.val = a.val; omega
  | ⟨1, _⟩ => show win0_10.index t (1 : Fin 2) * 128 + 1 * b.val = b.val; omega

/-- Where an index of window 11's block (the second layer's offsets) lies in its array. -/
theorem emb_11 (t : Fin cfg0.N) (a : Fin 192) (b : Fin 128) :
    ((cfg0.win 11).blk t).view.emb (ix2 a b) = ix2 a b := by
  obtain ⟨e0, e1⟩ := index_11 t
  funext s; apply Fin.ext
  match s with
  | ⟨0, _⟩ => show win0_11.index t (0 : Fin 2) * 192 + 1 * a.val = a.val; omega
  | ⟨1, _⟩ => show win0_11.index t (1 : Fin 2) * 128 + 1 * b.val = b.val; omega

/-- Where an index of window 12's block (the first normalisation's gain) lies in its array. -/
theorem emb_12 (t : Fin cfg0.N) (a : Fin 192) (b : Fin 128) :
    ((cfg0.win 12).blk t).view.emb (ix2 a b) = ix2 a b := by
  obtain ⟨e0, e1⟩ := index_12 t
  funext s; apply Fin.ext
  match s with
  | ⟨0, _⟩ => show win0_12.index t (0 : Fin 2) * 192 + 1 * a.val = a.val; omega
  | ⟨1, _⟩ => show win0_12.index t (1 : Fin 2) * 128 + 1 * b.val = b.val; omega

/-- Where an index of window 13's block (the first normalisation's offset) lies in its array. -/
theorem emb_13 (t : Fin cfg0.N) (a : Fin 192) (b : Fin 128) :
    ((cfg0.win 13).blk t).view.emb (ix2 a b) = ix2 a b := by
  obtain ⟨e0, e1⟩ := index_13 t
  funext s; apply Fin.ext
  match s with
  | ⟨0, _⟩ => show win0_13.index t (0 : Fin 2) * 192 + 1 * a.val = a.val; omega
  | ⟨1, _⟩ => show win0_13.index t (1 : Fin 2) * 128 + 1 * b.val = b.val; omega

/-- Where an index of window 14's block (the second normalisation's gain) lies in its array. -/
theorem emb_14 (t : Fin cfg0.N) (a : Fin 192) (b : Fin 128) :
    ((cfg0.win 14).blk t).view.emb (ix2 a b) = ix2 a b := by
  obtain ⟨e0, e1⟩ := index_14 t
  funext s; apply Fin.ext
  match s with
  | ⟨0, _⟩ => show win0_14.index t (0 : Fin 2) * 192 + 1 * a.val = a.val; omega
  | ⟨1, _⟩ => show win0_14.index t (1 : Fin 2) * 128 + 1 * b.val = b.val; omega

/-- Where an index of window 15's block (the second normalisation's offset) lies in its array. -/
theorem emb_15 (t : Fin cfg0.N) (a : Fin 192) (b : Fin 128) :
    ((cfg0.win 15).blk t).view.emb (ix2 a b) = ix2 a b := by
  obtain ⟨e0, e1⟩ := index_15 t
  funext s; apply Fin.ext
  match s with
  | ⟨0, _⟩ => show win0_15.index t (0 : Fin 2) * 192 + 1 * a.val = a.val; omega
  | ⟨1, _⟩ => show win0_15.index t (1 : Fin 2) * 128 + 1 * b.val = b.val; omega

/-! ## The blocks at a point are the arguments at its latitude -/

/-- A point's block of the input, read at an index, is the argument's entry. -/
theorem block_0 (t : Fin cfg0.N) (k : Fin 8) (d : Fin 192) (l : Fin 360) :
    (blocksAt m c t).x0 (ix4 k 0 d l) = (args m c).a0 (ix5 0 k (lat t) l d) := by
  show V m c main_v1 (((cfg0.win 0).blk t).view.emb (ix4 k 0 d l)) = _
  rw [emb_0, V_v1, lX_apply]
  rfl

/-- A point's block of the attention codes, read at an index, is the argument's entry. -/
theorem block_1 (t : Fin cfg0.N) (k : Fin 8) (d : Fin 192) (l : Fin 360) :
    (blocksAt m c t).x1 (ix4 k 0 d l) = (args m c).a1 (ix4 k (lat t) d l) := by
  show V m c main_arg1 (((cfg0.win 1).blk t).view.emb (ix4 k 0 d l)) = _
  rw [emb_1, V_main_arg1]
  rfl

/-- A point's block of the attention scales, read at an index, is the argument's entry. -/
theorem block_2 (t : Fin cfg0.N) (k : Fin 8) (l : Fin 360) :
    (blocksAt m c t).x2 (ix3 0 k l) = (args m c).a2 (ix3 (lat t) k l) := by
  show V m c main_arg2 (((cfg0.win 2).blk t).view.emb (ix3 0 k l)) = _
  rw [emb_2, V_main_arg2]
  rfl

/-- A point's block of the projection's codes, read at an index, is the argument's entry. -/
theorem block_3 (t : Fin cfg0.N) (a : Fin 192) (b : Fin 192) :
    (blocksAt m c t).x3 (ix2 a b) = (args m c).a3 (ix3 ⟨b.val / 32, by omega⟩ ⟨b.val % 32, Nat.mod_lt _ (by decide)⟩ a) := by
  show V m c main_v3 (((cfg0.win 3).blk t).view.emb (ix2 a b)) = _
  rw [emb_3, V_v3, lP_apply]
  rfl

/-- A point's block of the projection's column scales, read at an index, is the argument's entry. -/
theorem block_4 (t : Fin cfg0.N) (a : Fin 192) :
    (blocksAt m c t).x4 (ix2 a 0) = (args m c).a4 (ix1 a) := by
  show V m c main_v5 (((cfg0.win 4).blk t).view.emb (ix2 a 0)) = _
  rw [emb_4, V_v5, lC_apply]
  rfl

/-- A point's block of the projection's offsets, read at an index, is the argument's entry. -/
theorem block_5 (t : Fin cfg0.N) (a : Fin 192) :
    (blocksAt m c t).x5 (ix2 a 0) = (args m c).a5 (ix1 a) := by
  show V m c main_v7 (((cfg0.win 5).blk t).view.emb (ix2 a 0)) = _
  rw [emb_5, V_v7, lC_apply]
  rfl

/-- A point's block of the first layer's codes, read at an index, is the argument's entry. -/
theorem block_6 (t : Fin cfg0.N) (a : Fin 192) (b : Fin 768) :
    (blocksAt m c t).x6 (ix2 a b) = (args m c).a6 (ix2 a b) := by
  show V m c main_arg6 (((cfg0.win 6).blk t).view.emb (ix2 a b)) = _
  rw [emb_6, V_main_arg6]
  rfl

/-- A point's block of the first layer's column scales, read at an index, is the argument's entry. -/
theorem block_7 (t : Fin cfg0.N) (b : Fin 768) :
    (blocksAt m c t).x7 (ix2 0 b) = (args m c).a7 (ix1 b) := by
  show V m c main_v8 (((cfg0.win 7).blk t).view.emb (ix2 0 b)) = _
  rw [emb_7, V_v8, lR_apply]
  rfl

/-- A point's block of the first layer's offsets, read at an index, is the argument's entry. -/
theorem block_8 (t : Fin cfg0.N) (b : Fin 768) :
    (blocksAt m c t).x8 (ix2 0 b) = (args m c).a8 (ix1 b) := by
  show V m c main_v9 (((cfg0.win 8).blk t).view.emb (ix2 0 b)) = _
  rw [emb_8, V_v9, lR_apply]
  rfl

/-- A point's block of the second layer's codes, read at an index, is the argument's entry. -/
theorem block_9 (t : Fin cfg0.N) (a : Fin 192) (b : Fin 768) :
    (blocksAt m c t).x9 (ix2 a b) = (args m c).a9 (ix2 b a) := by
  show V m c main_v10 (((cfg0.win 9).blk t).view.emb (ix2 a b)) = _
  rw [emb_9, V_v10, lM_apply]
  rfl

/-- A point's block of the second layer's column scales, read at an index, is the argument's entry. -/
theorem block_10 (t : Fin cfg0.N) (a : Fin 192) :
    (blocksAt m c t).x10 (ix2 a 0) = (args m c).a10 (ix1 a) := by
  show V m c main_v12 (((cfg0.win 10).blk t).view.emb (ix2 a 0)) = _
  rw [emb_10, V_v12, lC_apply]
  rfl

/-- A point's block of the second layer's offsets, read at an index, is the argument's entry. -/
theorem block_11 (t : Fin cfg0.N) (a : Fin 192) :
    (blocksAt m c t).x11 (ix2 a 0) = (args m c).a11 (ix1 a) := by
  show V m c main_v14 (((cfg0.win 11).blk t).view.emb (ix2 a 0)) = _
  rw [emb_11, V_v14, lC_apply]
  rfl

/-- A point's block of the first normalisation's gain, read at an index, is the argument's entry. -/
theorem block_12 (t : Fin cfg0.N) (a : Fin 192) :
    (blocksAt m c t).x12 (ix2 a 0) = (args m c).a12 (ix1 a) := by
  show V m c main_v16 (((cfg0.win 12).blk t).view.emb (ix2 a 0)) = _
  rw [emb_12, V_v16, lC_apply]
  rfl

/-- A point's block of the first normalisation's offset, read at an index, is the argument's entry. -/
theorem block_13 (t : Fin cfg0.N) (a : Fin 192) :
    (blocksAt m c t).x13 (ix2 a 0) = (args m c).a13 (ix1 a) := by
  show V m c main_v18 (((cfg0.win 13).blk t).view.emb (ix2 a 0)) = _
  rw [emb_13, V_v18, lC_apply]
  rfl

/-- A point's block of the second normalisation's gain, read at an index, is the argument's entry. -/
theorem block_14 (t : Fin cfg0.N) (a : Fin 192) :
    (blocksAt m c t).x14 (ix2 a 0) = (args m c).a14 (ix1 a) := by
  show V m c main_v20 (((cfg0.win 14).blk t).view.emb (ix2 a 0)) = _
  rw [emb_14, V_v20, lC_apply]
  rfl

/-- A point's block of the second normalisation's offset, read at an index, is the argument's entry. -/
theorem block_15 (t : Fin cfg0.N) (a : Fin 192) :
    (blocksAt m c t).x15 (ix2 a 0) = (args m c).a15 (ix1 a) := by
  show V m c main_v22 (((cfg0.win 15).blk t).view.emb (ix2 a 0)) = _
  rw [emb_15, V_v22, lC_apply]
  rfl

/-- Weights are equal when all their entries are. -/
theorem weights_eq {W W' : Weights}
    (hwp : ∀ a b, W.wp a b = W'.wp a b)
    (hsp : ∀ a, W.sp a = W'.sp a)
    (hbp : ∀ a, W.bp a = W'.bp a)
    (hw1 : ∀ a b, W.w1 a b = W'.w1 a b)
    (hs1 : ∀ a, W.s1 a = W'.s1 a)
    (hb1 : ∀ a, W.b1 a = W'.b1 a)
    (hw2 : ∀ a b, W.w2 a b = W'.w2 a b)
    (hs2 : ∀ a, W.s2 a = W'.s2 a)
    (hb2 : ∀ a, W.b2 a = W'.b2 a)
    (hg1 : ∀ a, W.g1 a = W'.g1 a)
    (hbe1 : ∀ a, W.be1 a = W'.be1 a)
    (hg2 : ∀ a, W.g2 a = W'.g2 a)
    (hbe2 : ∀ a, W.be2 a = W'.be2 a) : W = W' := by
  cases W; cases W'
  rw [Weights.mk.injEq]
  exact ⟨funext fun a => funext (hwp a), funext hsp, funext hbp, funext fun a => funext (hw1 a), funext hs1, funext hb1,
    funext fun a => funext (hw2 a), funext hs2, funext hb2, funext hg1, funext hbe1, funext hg2, funext hbe2⟩

/-- Tokens are equal when all their entries are. -/
theorem token_eq {T T' : Token} (hx : ∀ d, T.x d = T'.x d) (ho : ∀ d, T.o d = T'.o d) (hs : T.os = T'.os) :
    T = T' := by
  cases T; cases T'
  rw [Token.mk.injEq]
  exact ⟨funext hx, funext ho, hs⟩

/-- A point's block of the projection's codes carries the argument's entries. -/
theorem W_wp (t : Fin cfg0.N) (a d : Fin 192) : (blocksAt m c t).W.wp a d = (args m c).W.wp a d :=
  congrArg ofCode (block_3 m c t d a)

/-- A point's block of the projection's column scales carries the argument's entries. -/
theorem W_sp (t : Fin cfg0.N) (a : Fin 192) : (blocksAt m c t).W.sp a = (args m c).W.sp a :=
  block_4 m c t a

/-- A point's block of the projection's offsets carries the argument's entries. -/
theorem W_bp (t : Fin cfg0.N) (a : Fin 192) : (blocksAt m c t).W.bp a = (args m c).W.bp a :=
  block_5 m c t a

/-- A point's block of the first layer's codes carries the argument's entries. -/
theorem W_w1 (t : Fin cfg0.N) (a : Fin 192) (d : Fin 768) : (blocksAt m c t).W.w1 a d = (args m c).W.w1 a d :=
  congrArg ofCode (block_6 m c t a d)

/-- A point's block of the first layer's column scales carries the argument's entries. -/
theorem W_s1 (t : Fin cfg0.N) (a : Fin 768) : (blocksAt m c t).W.s1 a = (args m c).W.s1 a :=
  block_7 m c t a

/-- A point's block of the first layer's offsets carries the argument's entries. -/
theorem W_b1 (t : Fin cfg0.N) (a : Fin 768) : (blocksAt m c t).W.b1 a = (args m c).W.b1 a :=
  block_8 m c t a

/-- A point's block of the second layer's codes carries the argument's entries. -/
theorem W_w2 (t : Fin cfg0.N) (a : Fin 768) (d : Fin 192) : (blocksAt m c t).W.w2 a d = (args m c).W.w2 a d :=
  congrArg ofCode (block_9 m c t d a)

/-- A point's block of the second layer's column scales carries the argument's entries. -/
theorem W_s2 (t : Fin cfg0.N) (a : Fin 192) : (blocksAt m c t).W.s2 a = (args m c).W.s2 a :=
  block_10 m c t a

/-- A point's block of the second layer's offsets carries the argument's entries. -/
theorem W_b2 (t : Fin cfg0.N) (a : Fin 192) : (blocksAt m c t).W.b2 a = (args m c).W.b2 a :=
  block_11 m c t a

/-- A point's block of the first normalisation's gain carries the argument's entries. -/
theorem W_g1 (t : Fin cfg0.N) (a : Fin 192) : (blocksAt m c t).W.g1 a = (args m c).W.g1 a :=
  block_12 m c t a

/-- A point's block of the first normalisation's offset carries the argument's entries. -/
theorem W_be1 (t : Fin cfg0.N) (a : Fin 192) : (blocksAt m c t).W.be1 a = (args m c).W.be1 a :=
  block_13 m c t a

/-- A point's block of the second normalisation's gain carries the argument's entries. -/
theorem W_g2 (t : Fin cfg0.N) (a : Fin 192) : (blocksAt m c t).W.g2 a = (args m c).W.g2 a :=
  block_14 m c t a

/-- A point's block of the second normalisation's offset carries the argument's entries. -/
theorem W_be2 (t : Fin cfg0.N) (a : Fin 192) : (blocksAt m c t).W.be2 a = (args m c).W.be2 a :=
  block_15 m c t a

/-- A point's weights are the arguments' weights. -/
theorem blocksAt_W (t : Fin cfg0.N) : (blocksAt m c t).W = (args m c).W :=
  weights_eq (W_wp m c t) (W_sp m c t) (W_bp m c t) (W_w1 m c t) (W_s1 m c t) (W_b1 m c t) (W_w2 m c t)
    (W_s2 m c t) (W_b2 m c t) (W_g1 m c t) (W_be1 m c t) (W_g2 m c t) (W_be2 m c t)

/-- A point's tokens are the arguments' tokens at its latitude. -/
theorem blocksAt_T (t : Fin cfg0.N) (k : Fin 8) (l : Fin 360) :
    (blocksAt m c t).T k l = (args m c).T k (lat t) l :=
  token_eq (fun d => block_0 m c t k d l) (fun d => congrArg ofCode (block_1 m c t k d l)) (block_2 m c t k l)

/-! ## The result arrays -/

/-- Output window 16's block at a point is that latitude of the result. -/
theorem part_16 (t : Fin cfg0.N) (j : S8x1x192x360.Idx) :
    (blocksAt m c t).oY j = (args m c).rY (((cfg0.win 16).blk t).view.emb j) := by
  idx_vars j
  obtain rfl : j1 = 0 := Subsingleton.elim _ _
  rw [emb_16 t j0 j2 j3]
  show y (blocksAt m c t).W ((blocksAt m c t).T j0 j3) j2
    = y (args m c).W ((args m c).T j0 (lat t) j3) j2
  simp only [blocksAt_W, blocksAt_T]

/-- Window 16's buffer after the body holds the block of the output. -/
theorem outs_16 (t : Fin cfg0.N) : (outsAt0 m c t).1 = (blocksAt m c t).oY := by
  unfold outsAt0
  exact out_blk_16 c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) (ms0_9 t)
    (hs0_9 t) (ms0_10 t) (hs0_10 t) (ms0_11 t) (hs0_11 t) (ms0_12 t) (hs0_12 t) (ms0_13 t) (hs0_13 t) (ms0_14 t)
    (hs0_14 t) (ms0_15 t) (hs0_15 t) (ms0_16 t) (hs0_16 t) (ms0_17 t) (hs0_17 t) (ms0_18 t) (hs0_18 t) (ms0_19 t)
    (hs0_19 t) (ms0_20 t) (hs0_20 t) (iblk m c 0 t) (iblk m c 1 t) (iblk m c 2 t) (iblk m c 3 t) (iblk m c 4 t) (iblk
    m c 5 t) (iblk m c 6 t) (iblk m c 7 t) (iblk m c 8 t) (iblk m c 9 t) (iblk m c 10 t) (iblk m c 11 t) (iblk m c 12
    t) (iblk m c 13 t) (iblk m c 14 t) (iblk m c 15 t)

/-- What a point writes back through window 16 is its part of the output. -/
theorem flushed_16 (t : Fin cfg0.N) :
    (dats m 0 c).flushed 16 t = ((cfg0.win 16).blk t).view.read (Elt Ideal) (args m c).rY := by
  rw [Value.flushed16, outs_16]
  funext j
  exact part_16 m c t j

/-- Every index of the output lies in some point's block. -/
theorem covered_16 (i : S8x90x192x360.Idx) :
    ∃ t : Fin cfg0.N, (cfg0.win 16).flush t = true ∧ i ∈ ((cfg0.win 16).blk t).view.set := by
  idx_vars i
  refine ⟨⟨i1.val, i1.isLt⟩, flush0_16 _, ?_⟩
  have h := ((cfg0.win 16).blk ⟨i1.val, i1.isLt⟩).view.emb_mem_set (ix4 i0 0 i2 i3)
  rw [emb_16] at h
  exact h

/-- Output window 16's array after the run. -/
theorem final_16 : (dats m 0 c).arrAt 16 cfg0.N = (args m c).rY :=
  (dats m 0 c).arrAt_eq_of_cover 16 (args m c).rY (fun t _ => flushed_16 m c t) covered_16

/-- Output window 17's block at a point is that latitude of the result. -/
theorem part_17 (t : Fin cfg0.N) (j : S8x1x192x360.Idx) :
    (blocksAt m c t).oMc j = (args m c).rMc (((cfg0.win 17).blk t).view.emb j) := by
  idx_vars j
  obtain rfl : j1 = 0 := Subsingleton.elim _ _
  rw [emb_17 t j0 j2 j3]
  show stored (x1 (blocksAt m c t).W ((blocksAt m c t).T j0 j3) j2) (ms (blocksAt m c t).W ((blocksAt m c t).T j0 j3))
    = stored (x1 (args m c).W ((args m c).T j0 (lat t) j3) j2) (ms (args m c).W ((args m c).T j0 (lat t) j3))
  simp only [blocksAt_W, blocksAt_T]

/-- Window 17's buffer after the body holds the block of the first codes. -/
theorem outs_17 (t : Fin cfg0.N) : (outsAt0 m c t).2.1 = (blocksAt m c t).oMc := by
  unfold outsAt0
  exact out_blk_17 c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) (ms0_9 t)
    (hs0_9 t) (ms0_10 t) (hs0_10 t) (ms0_11 t) (hs0_11 t) (ms0_12 t) (hs0_12 t) (ms0_13 t) (hs0_13 t) (ms0_14 t)
    (hs0_14 t) (ms0_15 t) (hs0_15 t) (ms0_16 t) (hs0_16 t) (ms0_17 t) (hs0_17 t) (ms0_18 t) (hs0_18 t) (ms0_19 t)
    (hs0_19 t) (ms0_20 t) (hs0_20 t) (iblk m c 0 t) (iblk m c 1 t) (iblk m c 2 t) (iblk m c 3 t) (iblk m c 4 t) (iblk
    m c 5 t) (iblk m c 6 t) (iblk m c 7 t) (iblk m c 8 t) (iblk m c 9 t) (iblk m c 10 t) (iblk m c 11 t) (iblk m c 12
    t) (iblk m c 13 t) (iblk m c 14 t) (iblk m c 15 t)

/-- What a point writes back through window 17 is its part of the first codes. -/
theorem flushed_17 (t : Fin cfg0.N) :
    (dats m 0 c).flushed 17 t = ((cfg0.win 17).blk t).view.read (Elt Ideal) (args m c).rMc := by
  rw [Value.flushed17, outs_17]
  funext j
  exact part_17 m c t j

/-- Every index of the first codes lies in some point's block. -/
theorem covered_17 (i : S8x90x192x360.Idx) :
    ∃ t : Fin cfg0.N, (cfg0.win 17).flush t = true ∧ i ∈ ((cfg0.win 17).blk t).view.set := by
  idx_vars i
  refine ⟨⟨i1.val, i1.isLt⟩, flush0_17 _, ?_⟩
  have h := ((cfg0.win 17).blk ⟨i1.val, i1.isLt⟩).view.emb_mem_set (ix4 i0 0 i2 i3)
  rw [emb_17] at h
  exact h

/-- Output window 17's array after the run. -/
theorem final_17 : (dats m 0 c).arrAt 17 cfg0.N = (args m c).rMc :=
  (dats m 0 c).arrAt_eq_of_cover 17 (args m c).rMc (fun t _ => flushed_17 m c t) covered_17

/-- Output window 18's block at a point is that latitude of the result. -/
theorem part_18 (t : Fin cfg0.N) (j : S1x8x360.Idx) :
    (blocksAt m c t).oMs j = (args m c).rMs (((cfg0.win 18).blk t).view.emb j) := by
  idx_vars j
  obtain rfl : j0 = 0 := Subsingleton.elim _ _
  rw [emb_18 t j1 j2]
  show ms (blocksAt m c t).W ((blocksAt m c t).T j1 j2)
    = ms (args m c).W ((args m c).T j1 (lat t) j2)
  simp only [blocksAt_W, blocksAt_T]

/-- Window 18's buffer after the body holds the block of the first scales. -/
theorem outs_18 (t : Fin cfg0.N) : (outsAt0 m c t).2.2.1 = (blocksAt m c t).oMs := by
  unfold outsAt0
  exact out_blk_18 c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) (ms0_9 t)
    (hs0_9 t) (ms0_10 t) (hs0_10 t) (ms0_11 t) (hs0_11 t) (ms0_12 t) (hs0_12 t) (ms0_13 t) (hs0_13 t) (ms0_14 t)
    (hs0_14 t) (ms0_15 t) (hs0_15 t) (ms0_16 t) (hs0_16 t) (ms0_17 t) (hs0_17 t) (ms0_18 t) (hs0_18 t) (ms0_19 t)
    (hs0_19 t) (ms0_20 t) (hs0_20 t) (iblk m c 0 t) (iblk m c 1 t) (iblk m c 2 t) (iblk m c 3 t) (iblk m c 4 t) (iblk
    m c 5 t) (iblk m c 6 t) (iblk m c 7 t) (iblk m c 8 t) (iblk m c 9 t) (iblk m c 10 t) (iblk m c 11 t) (iblk m c 12
    t) (iblk m c 13 t) (iblk m c 14 t) (iblk m c 15 t)

/-- What a point writes back through window 18 is its part of the first scales. -/
theorem flushed_18 (t : Fin cfg0.N) :
    (dats m 0 c).flushed 18 t = ((cfg0.win 18).blk t).view.read (Elt Ideal) (args m c).rMs := by
  rw [Value.flushed18, outs_18]
  funext j
  exact part_18 m c t j

/-- Every index of the first scales lies in some point's block. -/
theorem covered_18 (i : S90x8x360.Idx) :
    ∃ t : Fin cfg0.N, (cfg0.win 18).flush t = true ∧ i ∈ ((cfg0.win 18).blk t).view.set := by
  idx_vars i
  refine ⟨⟨i0.val, i0.isLt⟩, flush0_18 _, ?_⟩
  have h := ((cfg0.win 18).blk ⟨i0.val, i0.isLt⟩).view.emb_mem_set (ix3 0 i1 i2)
  rw [emb_18] at h
  exact h

/-- Output window 18's array after the run. -/
theorem final_18 : (dats m 0 c).arrAt 18 cfg0.N = (args m c).rMs :=
  (dats m 0 c).arrAt_eq_of_cover 18 (args m c).rMs (fun t _ => flushed_18 m c t) covered_18

/-- Output window 19's block at a point is that latitude of the result. -/
theorem part_19 (t : Fin cfg0.N) (j : S8x1x360x768.Idx) :
    (blocksAt m c t).oHc j = (args m c).rHc (((cfg0.win 19).blk t).view.emb j) := by
  idx_vars j
  obtain rfl : j1 = 0 := Subsingleton.elim _ _
  rw [emb_19 t j0 j2 j3]
  show stored (h (blocksAt m c t).W ((blocksAt m c t).T j0 j2) j3) (hs (blocksAt m c t).W ((blocksAt m c t).T j0 j2))
    = stored (h (args m c).W ((args m c).T j0 (lat t) j2) j3) (hs (args m c).W ((args m c).T j0 (lat t) j2))
  simp only [blocksAt_W, blocksAt_T]

/-- Window 19's buffer after the body holds the block of the second codes. -/
theorem outs_19 (t : Fin cfg0.N) : (outsAt0 m c t).2.2.2.1 = (blocksAt m c t).oHc := by
  unfold outsAt0
  exact out_blk_19 c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) (ms0_9 t)
    (hs0_9 t) (ms0_10 t) (hs0_10 t) (ms0_11 t) (hs0_11 t) (ms0_12 t) (hs0_12 t) (ms0_13 t) (hs0_13 t) (ms0_14 t)
    (hs0_14 t) (ms0_15 t) (hs0_15 t) (ms0_16 t) (hs0_16 t) (ms0_17 t) (hs0_17 t) (ms0_18 t) (hs0_18 t) (ms0_19 t)
    (hs0_19 t) (ms0_20 t) (hs0_20 t) (iblk m c 0 t) (iblk m c 1 t) (iblk m c 2 t) (iblk m c 3 t) (iblk m c 4 t) (iblk
    m c 5 t) (iblk m c 6 t) (iblk m c 7 t) (iblk m c 8 t) (iblk m c 9 t) (iblk m c 10 t) (iblk m c 11 t) (iblk m c 12
    t) (iblk m c 13 t) (iblk m c 14 t) (iblk m c 15 t)

/-- What a point writes back through window 19 is its part of the second codes. -/
theorem flushed_19 (t : Fin cfg0.N) :
    (dats m 0 c).flushed 19 t = ((cfg0.win 19).blk t).view.read (Elt Ideal) (args m c).rHc := by
  rw [Value.flushed19, outs_19]
  funext j
  exact part_19 m c t j

/-- Every index of the second codes lies in some point's block. -/
theorem covered_19 (i : S8x90x360x768.Idx) :
    ∃ t : Fin cfg0.N, (cfg0.win 19).flush t = true ∧ i ∈ ((cfg0.win 19).blk t).view.set := by
  idx_vars i
  refine ⟨⟨i1.val, i1.isLt⟩, flush0_19 _, ?_⟩
  have h := ((cfg0.win 19).blk ⟨i1.val, i1.isLt⟩).view.emb_mem_set (ix4 i0 0 i2 i3)
  rw [emb_19] at h
  exact h

/-- Output window 19's array after the run. -/
theorem final_19 : (dats m 0 c).arrAt 19 cfg0.N = (args m c).rHc :=
  (dats m 0 c).arrAt_eq_of_cover 19 (args m c).rHc (fun t _ => flushed_19 m c t) covered_19

/-- Output window 20's block at a point is that latitude of the result. -/
theorem part_20 (t : Fin cfg0.N) (j : S1x8x360.Idx) :
    (blocksAt m c t).oHs j = (args m c).rHs (((cfg0.win 20).blk t).view.emb j) := by
  idx_vars j
  obtain rfl : j0 = 0 := Subsingleton.elim _ _
  rw [emb_20 t j1 j2]
  show hs (blocksAt m c t).W ((blocksAt m c t).T j1 j2)
    = hs (args m c).W ((args m c).T j1 (lat t) j2)
  simp only [blocksAt_W, blocksAt_T]

/-- Window 20's buffer after the body holds the block of the second scales. -/
theorem outs_20 (t : Fin cfg0.N) : (outsAt0 m c t).2.2.2.2 = (blocksAt m c t).oHs := by
  unfold outsAt0
  exact out_blk_20 c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) (ms0_9 t)
    (hs0_9 t) (ms0_10 t) (hs0_10 t) (ms0_11 t) (hs0_11 t) (ms0_12 t) (hs0_12 t) (ms0_13 t) (hs0_13 t) (ms0_14 t)
    (hs0_14 t) (ms0_15 t) (hs0_15 t) (ms0_16 t) (hs0_16 t) (ms0_17 t) (hs0_17 t) (ms0_18 t) (hs0_18 t) (ms0_19 t)
    (hs0_19 t) (ms0_20 t) (hs0_20 t) (iblk m c 0 t) (iblk m c 1 t) (iblk m c 2 t) (iblk m c 3 t) (iblk m c 4 t) (iblk
    m c 5 t) (iblk m c 6 t) (iblk m c 7 t) (iblk m c 8 t) (iblk m c 9 t) (iblk m c 10 t) (iblk m c 11 t) (iblk m c 12
    t) (iblk m c 13 t) (iblk m c 14 t) (iblk m c 15 t)

/-- What a point writes back through window 20 is its part of the second scales. -/
theorem flushed_20 (t : Fin cfg0.N) :
    (dats m 0 c).flushed 20 t = ((cfg0.win 20).blk t).view.read (Elt Ideal) (args m c).rHs := by
  rw [Value.flushed20, outs_20]
  funext j
  exact part_20 m c t j

/-- Every index of the second scales lies in some point's block. -/
theorem covered_20 (i : S90x8x360.Idx) :
    ∃ t : Fin cfg0.N, (cfg0.win 20).flush t = true ∧ i ∈ ((cfg0.win 20).blk t).view.set := by
  idx_vars i
  refine ⟨⟨i0.val, i0.isLt⟩, flush0_20 _, ?_⟩
  have h := ((cfg0.win 20).blk ⟨i0.val, i0.isLt⟩).view.emb_mem_set (ix3 0 i1 i2)
  rw [emb_20] at h
  exact h

/-- Output window 20's array after the run. -/
theorem final_20 : (dats m 0 c).arrAt 20 cfg0.N = (args m c).rHs :=
  (dats m 0 c).arrAt_eq_of_cover 20 (args m c).rHs (fun t _ => flushed_20 m c t) covered_20

end Cert.KernelIdeal.Hand

end
-- ==== Proof.RefTerms.lean ====
/-
  The reference's array operations, named over arrays of the plain shapes, each read at one index in terms of the
  functions of one token.
-/
module

public import proofs.«01_k».proof.Proof.Token
public import proofs.«01_k».proof.Proof.Gen.ReferenceIdeal.Run
public import Idealize.ShloMosaic.Lib.Pointwise

@[expose] public section

set_option maxRecDepth 16384

noncomputable section

namespace Cert.ReferenceIdeal.Hand

open Idealize Idealize.ShloMosaic
open Cert.ReferenceIdeal Cert.ReferenceIdeal.Gen
open Cert.Mlp

/-- The output projection of every token. -/
def tProj (oc : IVec S8x90x192x360 8) (osc : FVec Ideal S90x8x360 .f32) (w : IVec S6x32x192 8) (s b : FVec Ideal S192 .f32) :
    FVec Ideal S8x90x360x192 .f32 :=
  addf (mulf (mulf (Host.dotGeneral dot_S8x90x360x192_S192x192_S8x90x360x192_3_0_012_1_n_n none (truncf .bf16 (sitofp .f32 (extsi 32 (transpose S8x90x360x192 [0, 1, 3, 2] oc transposes_S8x90x192x360_S8x90x360x192_0_1_3_2) natLt_8_32)) bitsLt_bf16_f32) (truncf .bf16 (sitofp .f32 (extsi 32 (shapeCast _ w shapeCasts_S6x32x192_S192x192) natLt_8_32)) bitsLt_bf16_f32)) (broadcastInDim S8x90x360x192 ![0, 1, 2, 3] bcast_S8x90x360x1_S8x90x360x192_0_1_2_3 (broadcastInDim S8x90x360x1 ![0, 1, 2] bcast_S8x90x360_S8x90x360x1_0_1_2 (transpose S8x90x360 [1, 0, 2] osc transposes_S90x8x360_S8x90x360_1_0_2)))) (broadcastInDim S8x90x360x192 ![0, 1, 2, 3] bcast_S1x1x1x192_S8x90x360x192_0_1_2_3 (broadcastInDim S1x1x1x192 ![3] bcast_S192_S1x1x1x192_3 s))) (broadcastInDim S8x90x360x192 ![0, 1, 2, 3] bcast_S1x1x1x192_S8x90x360x192_0_1_2_3 (broadcastInDim S1x1x1x192 ![3] bcast_S192_S1x1x1x192_3 b))

/-- The mean of every token's row. -/
def tMean (v : FVec Ideal S8x90x360x192 .f32) : FVec Ideal S8x90x360x1 .f32 :=
  Host.divf (broadcastInDim S8x90x360x1 ![0, 1, 2] bcast_S8x90x360_S8x90x360x1_0_1_2 (Host.reduceAdd v (constant S_ .f32 0x00000000#32) reducesTo_S8x90x360x192_S8x90x360_d3 h_S_)) (broadcastInDim S8x90x360x1 ![] bcast_S_S8x90x360x1 (constant S_ .f32 0x43400000#32))

/-- Every row less its mean. -/
def tDev (v : FVec Ideal S8x90x360x192 .f32) : FVec Ideal S8x90x360x192 .f32 :=
  subf v (broadcastInDim S8x90x360x192 ![0, 1, 2, 3] bcast_S8x90x360x1_S8x90x360x192_0_1_2_3 (tMean v))

/-- The layer normalisation of every row. -/
def tNorm (v : FVec Ideal S8x90x360x192 .f32) (g b : FVec Ideal S192 .f32) : FVec Ideal S8x90x360x192 .f32 :=
  addf (mulf (Host.divf (tDev v) (broadcastInDim S8x90x360x192 ![0, 1, 2, 3] bcast_S8x90x360x1_S8x90x360x192_0_1_2_3 (Host.sqrt (addf (Host.divf (broadcastInDim S8x90x360x1 ![0, 1, 2] bcast_S8x90x360_S8x90x360x1_0_1_2 (Host.reduceAdd (mulf (tDev v) (tDev v)) (constant S_ .f32 0x00000000#32) reducesTo_S8x90x360x192_S8x90x360_d3 h_S_)) (broadcastInDim S8x90x360x1 ![] bcast_S_S8x90x360x1 (constant S_ .f32 0x43400000#32))) (broadcastInDim S8x90x360x1 ![] bcast_S_S8x90x360x1 (constant S_ .f32 0x3727C5AC#32)))))) (broadcastInDim S8x90x360x192 ![0, 1, 2, 3] bcast_S1x1x1x192_S8x90x360x192_0_1_2_3 (broadcastInDim S1x1x1x192 ![3] bcast_S192_S1x1x1x192_3 g))) (broadcastInDim S8x90x360x192 ![0, 1, 2, 3] bcast_S1x1x1x192_S8x90x360x192_0_1_2_3 (broadcastInDim S1x1x1x192 ![3] bcast_S192_S1x1x1x192_3 b))

/-- The block's input in the layout of the rows. -/
def tX (x : FVec Ideal S1x8x90x360x192 .bf16) : FVec Ideal S8x90x360x192 .f32 :=
  extf .f32 (shapeCast S8x90x360x192 x shapeCasts_S1x8x90x360x192_S8x90x360x192) bitsLt_bf16_f32

/-- The quantisation scale of every row, from the greatest magnitudes `a`. -/
def tScaleOf (a : FVec Ideal S8x90x360x1 .f32) : FVec Ideal S8x90x360x1 .f32 :=
  select (cmpf .ogt a (broadcastInDim S8x90x360x1 ![] bcast_S_S8x90x360x1 (constant S_ .f32 0x00000000#32))) (Host.divf a (broadcastInDim S8x90x360x1 ![] bcast_S_S8x90x360x1 (constant S_ .f32 0x42FE0000#32))) (broadcastInDim S8x90x360x1 ![] bcast_S_S8x90x360x1 (constant S_ .f32 0x3F800000#32))

/-- The greatest magnitude of every row of 192. -/
def tMax (v : FVec Ideal S8x90x360x192 .f32) : FVec Ideal S8x90x360x1 .f32 :=
  broadcastInDim S8x90x360x1 ![0, 1, 2] bcast_S8x90x360_S8x90x360x1_0_1_2 (Host.reduce FloatOps.maximumf (Host.absf v) (constant S_ .f32 0xFF800000#32) reducesTo_S8x90x360x192_S8x90x360_d3 h_S_)

/-- The greatest magnitude of every row of 768. -/
def tMaxH (v : FVec Ideal S8x90x360x768 .f32) : FVec Ideal S8x90x360x1 .f32 :=
  broadcastInDim S8x90x360x1 ![0, 1, 2] bcast_S8x90x360_S8x90x360x1_0_1_2 (Host.reduce FloatOps.maximumf (Host.absf v) (constant S_ .f32 0xFF800000#32) reducesTo_S8x90x360x768_S8x90x360_d3 h_S_)

/-- The codes of every row of 192 at the scales `s`. -/
def tCode (v : FVec Ideal S8x90x360x192 .f32) (s : FVec Ideal S8x90x360x1 .f32) : IVec S8x90x360x192 8 :=
  trunci 8 (fptosi 32 (minimumf (broadcastInDim S8x90x360x192 ![] bcast_S_S8x90x360x192 (constant S_ .f32 0x42FE0000#32)) (maximumf (broadcastInDim S8x90x360x192 ![] bcast_S_S8x90x360x192 (constant S_ .f32 0xC2FE0000#32)) (Host.roundeven (Host.divf v (broadcastInDim S8x90x360x192 ![0, 1, 2, 3] bcast_S8x90x360x1_S8x90x360x192_0_1_2_3 s)))))) natLt_8_32

/-- The codes of every row of 768 at the scales `s`. -/
def tCodeH (v : FVec Ideal S8x90x360x768 .f32) (s : FVec Ideal S8x90x360x1 .f32) : IVec S8x90x360x768 8 :=
  trunci 8 (fptosi 32 (minimumf (broadcastInDim S8x90x360x768 ![] bcast_S_S8x90x360x768 (constant S_ .f32 0x42FE0000#32)) (maximumf (broadcastInDim S8x90x360x768 ![] bcast_S_S8x90x360x768 (constant S_ .f32 0xC2FE0000#32)) (Host.roundeven (Host.divf v (broadcastInDim S8x90x360x768 ![0, 1, 2, 3] bcast_S8x90x360x1_S8x90x360x768_0_1_2_3 s)))))) natLt_8_32

/-- A scale per row without its unit axis. -/
def tFlat (s : FVec Ideal S8x90x360x1 .f32) : FVec Ideal S8x90x360 .f32 :=
  shapeCast S8x90x360 s shapeCasts_S8x90x360x1_S8x90x360

/-- The first layer on every row of codes `q` at scales `s`. -/
def tFc1 (q : IVec S8x90x360x192 8) (s : FVec Ideal S8x90x360 .f32) (w : IVec S192x768 8) (ws b : FVec Ideal S768 .f32) :
    FVec Ideal S8x90x360x768 .f32 :=
  addf (mulf (mulf (Host.dotGeneral dot_S8x90x360x192_S192x768_S8x90x360x768_3_0_012_1_n_n none (truncf .bf16 (sitofp .f32 (extsi 32 q natLt_8_32)) bitsLt_bf16_f32) (truncf .bf16 (sitofp .f32 (extsi 32 w natLt_8_32)) bitsLt_bf16_f32)) (broadcastInDim S8x90x360x768 ![0, 1, 2, 3] bcast_S8x90x360x1_S8x90x360x768_0_1_2_3 (broadcastInDim S8x90x360x1 ![0, 1, 2] bcast_S8x90x360_S8x90x360x1_0_1_2 s))) (broadcastInDim S8x90x360x768 ![0, 1, 2, 3] bcast_S1x1x1x768_S8x90x360x768_0_1_2_3 (broadcastInDim S1x1x1x768 ![3] bcast_S768_S1x1x1x768_3 ws))) (broadcastInDim S8x90x360x768 ![0, 1, 2, 3] bcast_S1x1x1x768_S8x90x360x768_0_1_2_3 (broadcastInDim S1x1x1x768 ![3] bcast_S768_S1x1x1x768_3 b))

/-- The activation of every pre-activation. -/
def tGelu (v : FVec Ideal S8x90x360x768 .f32) : FVec Ideal S8x90x360x768 .f32 :=
  mulf (mulf (broadcastInDim S8x90x360x768 ![] bcast_S_S8x90x360x768 (constant S_ .f32 0x3F000000#32)) v) (addf (broadcastInDim S8x90x360x768 ![] bcast_S_S8x90x360x768 (constant S_ .f32 0x3F800000#32)) (Host.erf (mulf v (broadcastInDim S8x90x360x768 ![] bcast_S_S8x90x360x768 (constant S_ .f32 0x3F3504F3#32)))))

/-- The second layer on every row of codes `q` at scales `s`. -/
def tFc2 (q : IVec S8x90x360x768 8) (s : FVec Ideal S8x90x360 .f32) (w : IVec S768x192 8) (ws b : FVec Ideal S192 .f32) :
    FVec Ideal S8x90x360x192 .f32 :=
  addf (mulf (mulf (Host.dotGeneral dot_S8x90x360x768_S768x192_S8x90x360x192_3_0_012_1_n_n none (truncf .bf16 (sitofp .f32 (extsi 32 q natLt_8_32)) bitsLt_bf16_f32) (truncf .bf16 (sitofp .f32 (extsi 32 w natLt_8_32)) bitsLt_bf16_f32)) (broadcastInDim S8x90x360x192 ![0, 1, 2, 3] bcast_S8x90x360x1_S8x90x360x192_0_1_2_3 (broadcastInDim S8x90x360x1 ![0, 1, 2] bcast_S8x90x360_S8x90x360x1_0_1_2 s))) (broadcastInDim S8x90x360x192 ![0, 1, 2, 3] bcast_S1x1x1x192_S8x90x360x192_0_1_2_3 (broadcastInDim S1x1x1x192 ![3] bcast_S192_S1x1x1x192_3 ws))) (broadcastInDim S8x90x360x192 ![0, 1, 2, 3] bcast_S1x1x1x192_S8x90x360x192_0_1_2_3 (broadcastInDim S1x1x1x192 ![3] bcast_S192_S1x1x1x192_3 b))

/-- An 8-bit code widened to 32 bits and read as an extended real is the code. -/
theorem sitofp_ext (b : BitVec 8) :
    FloatOps.sitofp (F := Ideal) .f32 (BitVec.signExtend 32 b) = ofCode b := by
  show (((BitVec.signExtend 32 b).toInt : ℝ) : EReal) = _
  rw [BitVec.toInt_signExtend_of_le (by decide)]

/-- The projection read at an index is its token's linear layer. -/
theorem tProj_apply (oc : IVec S8x90x192x360 8) (osc : FVec Ideal S90x8x360 .f32) (w : IVec S6x32x192 8)
    (s b : FVec Ideal S192 .f32) (k : Fin 8) (t : Fin 90) (l : Fin 360) (d : Fin 192) :
    tProj oc osc w s b (ix4 k t l d)
      = lin (fun c => ofCode (oc (ix4 k t c l)))
          (fun c e => ofCode (w (ix3 ⟨c.val / 32, by omega⟩ ⟨c.val % 32, by omega⟩ e)))
          (osc (ix3 t k l)) (fun e => s (ix1 e)) (fun e => b (ix1 e)) d := by
  pointwise [tProj, lin, sitofp_ext]

/-- The deviation read at an index. -/
theorem tDev_apply (v : FVec Ideal S8x90x360x192 .f32) (k : Fin 8) (t : Fin 90) (l : Fin 360) (d : Fin 192) :
    tDev v (ix4 k t l d) = dev (fun e => v (ix4 k t l e)) d := by
  pointwise [tDev, tMean, dev]

/-- The layer normalisation read at an index is its row's. -/
theorem tNorm_apply (v : FVec Ideal S8x90x360x192 .f32) (g b : FVec Ideal S192 .f32) (k : Fin 8) (t : Fin 90)
    (l : Fin 360) (d : Fin 192) :
    tNorm v g b (ix4 k t l d)
      = lnorm (fun e => v (ix4 k t l e)) (fun e => g (ix1 e)) (fun e => b (ix1 e)) d := by
  pointwise [tNorm, lnorm, spread, tDev_apply]

/-- The input read at an index. -/
theorem tX_apply (x : FVec Ideal S1x8x90x360x192 .bf16) (k : Fin 8) (t : Fin 90) (l : Fin 360) (d : Fin 192) :
    tX x (ix4 k t l d) = x (ix5 0 k t l d) := by
  pointwise [tX]

/-- The greatest magnitude read at a row. -/
theorem tMax_apply (v : FVec Ideal S8x90x360x192 .f32) (k : Fin 8) (t : Fin 90) (l : Fin 360) :
    tMax v (ix4 k t l 0) = amax (fun e => v (ix4 k t l e)) := by
  pointwise [tMax, amax]

/-- The greatest magnitude read at a row. -/
theorem tMaxH_apply (v : FVec Ideal S8x90x360x768 .f32) (k : Fin 8) (t : Fin 90) (l : Fin 360) :
    tMaxH v (ix4 k t l 0) = amax (fun e => v (ix4 k t l e)) := by
  pointwise [tMaxH, amax]

/-- The scale read at a row. -/
theorem tScaleOf_apply (a : FVec Ideal S8x90x360x1 .f32) (k : Fin 8) (t : Fin 90) (l : Fin 360) :
    tScaleOf a (ix4 k t l 0) = if 0 < a (ix4 k t l 0) then Ideal.div (a (ix4 k t l 0)) cMax else 1 := by
  pointwise [tScaleOf]

/-- The codes read at an index. -/
theorem tCode_apply (v : FVec Ideal S8x90x360x192 .f32) (s : FVec Ideal S8x90x360x1 .f32) (k : Fin 8) (t : Fin 90)
    (l : Fin 360) (d : Fin 192) :
    tCode v s (ix4 k t l d)
      = BitVec.setWidth 8 (FloatOps.fptosi (F := Ideal) (φ := .f32) 32 (code (v (ix4 k t l d)) (s (ix4 k t l 0)))) := by
  pointwise [tCode, code, clipRound]

/-- The codes read at an index. -/
theorem tCodeH_apply (v : FVec Ideal S8x90x360x768 .f32) (s : FVec Ideal S8x90x360x1 .f32) (k : Fin 8) (t : Fin 90)
    (l : Fin 360) (d : Fin 768) :
    tCodeH v s (ix4 k t l d)
      = BitVec.setWidth 8 (FloatOps.fptosi (F := Ideal) (φ := .f32) 32 (code (v (ix4 k t l d)) (s (ix4 k t l 0)))) := by
  pointwise [tCodeH, code, clipRound]

/-- The flattened scales read at a row. -/
theorem tFlat_apply (s : FVec Ideal S8x90x360x1 .f32) (k : Fin 8) (t : Fin 90) (l : Fin 360) :
    tFlat s (ix3 k t l) = s (ix4 k t l 0) := by
  pointwise [tFlat]

/-- The first layer read at an index is its row's linear layer. -/
theorem tFc1_apply (q : IVec S8x90x360x192 8) (s : FVec Ideal S8x90x360 .f32) (w : IVec S192x768 8)
    (ws b : FVec Ideal S768 .f32) (k : Fin 8) (t : Fin 90) (l : Fin 360) (j : Fin 768) :
    tFc1 q s w ws b (ix4 k t l j)
      = lin (fun c => ofCode (q (ix4 k t l c))) (fun c e => ofCode (w (ix2 c e))) (s (ix3 k t l))
          (fun e => ws (ix1 e)) (fun e => b (ix1 e)) j := by
  pointwise [tFc1, lin, sitofp_ext]

/-- The activation read at an index. -/
theorem tGelu_apply (v : FVec Ideal S8x90x360x768 .f32) (k : Fin 8) (t : Fin 90) (l : Fin 360) (j : Fin 768) :
    tGelu v (ix4 k t l j) = gelu (v (ix4 k t l j)) := by
  pointwise [tGelu, gelu]

/-- The second layer read at an index is its row's linear layer. -/
theorem tFc2_apply (q : IVec S8x90x360x768 8) (s : FVec Ideal S8x90x360 .f32) (w : IVec S768x192 8)
    (ws b : FVec Ideal S192 .f32) (k : Fin 8) (t : Fin 90) (l : Fin 360) (j : Fin 192) :
    tFc2 q s w ws b (ix4 k t l j)
      = lin (fun c => ofCode (q (ix4 k t l c))) (fun c e => ofCode (w (ix2 c e))) (s (ix3 k t l))
          (fun e => ws (ix1 e)) (fun e => b (ix1 e)) j := by
  pointwise [tFc2, lin, sitofp_ext]

end Cert.ReferenceIdeal.Hand

end
-- ==== Proof.RefValue.lean ====
/-
  What the reference computes: each of its five results, read at one index, is the function of that index's token.
-/
module

public import proofs.«01_k».proof.Proof.RefTerms
public import proofs.«01_k».proof.Proof.Spec

@[expose] public section

set_option maxRecDepth 16384

noncomputable section

namespace Cert.ReferenceIdeal.Hand

open Idealize Idealize.ShloMosaic
open Cert.ReferenceIdeal Cert.ReferenceIdeal.Gen Cert.ReferenceIdeal.Value
open Cert.Mlp

variable (V : Valuation τ sig (Elt Ideal))

/-- The argument that holds the input. -/
abbrev A0 : FVec Ideal S1x8x90x360x192 .bf16 := V (Proc.devRef .tc main_arg0)
/-- The argument that holds the attention codes. -/
abbrev A1 : IVec S8x90x192x360 8 := V (Proc.devRef .tc main_arg1)
/-- The argument that holds the attention scales. -/
abbrev A2 : FVec Ideal S90x8x360 .f32 := V (Proc.devRef .tc main_arg2)
/-- The argument that holds the projection's codes. -/
abbrev A3 : IVec S6x32x192 8 := V (Proc.devRef .tc main_arg3)
/-- The argument that holds the projection's column scales. -/
abbrev A4 : FVec Ideal S192 .f32 := V (Proc.devRef .tc main_arg4)
/-- The argument that holds the projection's offsets. -/
abbrev A5 : FVec Ideal S192 .f32 := V (Proc.devRef .tc main_arg5)
/-- The argument that holds the first layer's codes. -/
abbrev A6 : IVec S192x768 8 := V (Proc.devRef .tc main_arg6)
/-- The argument that holds the first layer's column scales. -/
abbrev A7 : FVec Ideal S768 .f32 := V (Proc.devRef .tc main_arg7)
/-- The argument that holds the first layer's offsets. -/
abbrev A8 : FVec Ideal S768 .f32 := V (Proc.devRef .tc main_arg8)
/-- The argument that holds the second layer's codes. -/
abbrev A9 : IVec S768x192 8 := V (Proc.devRef .tc main_arg9)
/-- The argument that holds the second layer's column scales. -/
abbrev A10 : FVec Ideal S192 .f32 := V (Proc.devRef .tc main_arg10)
/-- The argument that holds the second layer's offsets. -/
abbrev A11 : FVec Ideal S192 .f32 := V (Proc.devRef .tc main_arg11)
/-- The argument that holds the first normalisation's gain. -/
abbrev A12 : FVec Ideal S192 .f32 := V (Proc.devRef .tc main_arg12)
/-- The argument that holds the first normalisation's offset. -/
abbrev A13 : FVec Ideal S192 .f32 := V (Proc.devRef .tc main_arg13)
/-- The argument that holds the second normalisation's gain. -/
abbrev A14 : FVec Ideal S192 .f32 := V (Proc.devRef .tc main_arg14)
/-- The argument that holds the second normalisation's offset. -/
abbrev A15 : FVec Ideal S192 .f32 := V (Proc.devRef .tc main_arg15)

/-- One of the reference's shared values as an operation on earlier ones. -/
theorem v18_eq : res_main_v18 V = tProj (A1 V) (A2 V) (A3 V) (A4 V) (A5 V) := rfl
/-- One of the reference's shared values as an operation on earlier ones. -/
theorem v24_eq : res_main_v24 V = tMean (res_main_v18 V) := rfl
/-- One of the reference's shared values as an operation on earlier ones. -/
theorem v26_eq : res_main_v26 V = tDev (res_main_v18 V) := rfl
/-- One of the reference's shared values as an operation on earlier ones. -/
theorem v45_eq : res_main_v45 V = addf (tX (A0 V)) (tNorm (res_main_v18 V) (A12 V) (A13 V)) := rfl
/-- One of the reference's shared values as an operation on earlier ones. -/
theorem v48_eq : res_main_v48 V = tMax (res_main_v45 V) := rfl
/-- One of the reference's shared values as an operation on earlier ones. -/
theorem v53_eq : res_main_v53 V = tScaleOf (res_main_v48 V) := rfl
/-- One of the reference's shared values as an operation on earlier ones. -/
theorem v59_eq : res_main_v59 V = tCode (res_main_v45 V) (res_main_v53 V) := rfl
/-- One of the reference's shared values as an operation on earlier ones. -/
theorem v60_eq : res_main_v60 V = tFlat (res_main_v53 V) := rfl
/-- One of the reference's shared values as an operation on earlier ones. -/
theorem v76_eq : res_main_v76 V = tFc1 (res_main_v59 V) (res_main_v60 V) (A6 V) (A7 V) (A8 V) := rfl
/-- One of the reference's shared values as an operation on earlier ones. -/
theorem v84_eq : res_main_v84 V = tGelu (res_main_v76 V) := rfl
/-- One of the reference's shared values as an operation on earlier ones. -/
theorem v87_eq : res_main_v87 V = tMaxH (res_main_v84 V) := rfl
/-- One of the reference's shared values as an operation on earlier ones. -/
theorem v92_eq : res_main_v92 V = tScaleOf (res_main_v87 V) := rfl
/-- One of the reference's shared values as an operation on earlier ones. -/
theorem v99_eq : res_main_v99 V = tFlat (res_main_v92 V) := rfl
/-- One of the reference's shared values as an operation on earlier ones. -/
theorem v115_eq : res_main_v115 V
    = tFc2 (tCodeH (res_main_v84 V) (res_main_v92 V)) (res_main_v99 V) (A9 V) (A10 V) (A11 V) := rfl

/-- The reference's arguments. -/
def argsOf : Args where
  a0 := A0 V
  a1 := A1 V
  a2 := A2 V
  a3 := A3 V
  a4 := A4 V
  a5 := A5 V
  a6 := A6 V
  a7 := A7 V
  a8 := A8 V
  a9 := A9 V
  a10 := A10 V
  a11 := A11 V
  a12 := A12 V
  a13 := A13 V
  a14 := A14 V
  a15 := A15 V

/-- The scale of a row from its greatest magnitude. -/
theorem scaleOf_eq {n : Nat} (a : FVec Ideal S8x90x360x1 .f32) (v : Fin n → EReal) (k : Fin 8) (t : Fin 90)
    (l : Fin 360) (h : a (ix4 k t l 0) = amax v) : tScaleOf a (ix4 k t l 0) = scale v := by
  rw [tScaleOf_apply, h]; rfl

variable (k : Fin 8) (t : Fin 90) (l : Fin 360)

/-- The output projection's rows. -/
theorem v18_apply (d : Fin 192) :
    res_main_v18 V (ix4 k t l d) = proj (argsOf V).W ((argsOf V).T k t l) d := by
  rw [v18_eq, tProj_apply]; rfl

/-- The rows after the first residual sum. -/
theorem v45_apply (d : Fin 192) :
    res_main_v45 V (ix4 k t l d) = x1 (argsOf V).W ((argsOf V).T k t l) d := by
  rw [v45_eq]
  show tX (A0 V) (ix4 k t l d) + tNorm (res_main_v18 V) (A12 V) (A13 V) (ix4 k t l d) = _
  rw [tX_apply, tNorm_apply, funext (v18_apply V k t l)]; rfl

/-- The first scales. -/
theorem v53_apply : res_main_v53 V (ix4 k t l 0) = ms (argsOf V).W ((argsOf V).T k t l) := by
  rw [v53_eq]
  exact scaleOf_eq _ _ k t l (by rw [v48_eq, tMax_apply, funext (v45_apply V k t l)])

/-- The first codes. -/
theorem v59_apply (d : Fin 192) :
    res_main_v59 V (ix4 k t l d)
      = stored (x1 (argsOf V).W ((argsOf V).T k t l) d) (ms (argsOf V).W ((argsOf V).T k t l)) := by
  rw [v59_eq, tCode_apply, v45_apply, v53_apply]
  exact store_code _

/-- The first scales without their unit axis. -/
theorem v60_apply : res_main_v60 V (ix3 k t l) = ms (argsOf V).W ((argsOf V).T k t l) := by
  rw [v60_eq, tFlat_apply, v53_apply]

/-- The first codes, read as numbers. -/
theorem v59_code :
    (fun d => ofCode (res_main_v59 V (ix4 k t l d))) = mc (argsOf V).W ((argsOf V).T k t l) := by
  funext d
  rw [v59_apply, ofCode_stored]; rfl

/-- The first layer's pre-activations. -/
theorem v76_apply (j : Fin 768) :
    res_main_v76 V (ix4 k t l j) = z (argsOf V).W ((argsOf V).T k t l) j := by
  rw [v76_eq, tFc1_apply, v59_code, v60_apply]; rfl

/-- The hidden rows. -/
theorem v84_apply (j : Fin 768) :
    res_main_v84 V (ix4 k t l j) = h (argsOf V).W ((argsOf V).T k t l) j := by
  rw [v84_eq, tGelu_apply, v76_apply]; rfl

/-- The second scales. -/
theorem v92_apply : res_main_v92 V (ix4 k t l 0) = hs (argsOf V).W ((argsOf V).T k t l) := by
  rw [v92_eq]
  exact scaleOf_eq _ _ k t l (by rw [v87_eq, tMaxH_apply, funext (v84_apply V k t l)])

/-- The second scales without their unit axis. -/
theorem v99_apply : res_main_v99 V (ix3 k t l) = hs (argsOf V).W ((argsOf V).T k t l) := by
  rw [v99_eq, tFlat_apply, v92_apply]

/-- The second codes. -/
theorem codeH_apply (j : Fin 768) :
    tCodeH (res_main_v84 V) (res_main_v92 V) (ix4 k t l j)
      = stored (h (argsOf V).W ((argsOf V).T k t l) j) (hs (argsOf V).W ((argsOf V).T k t l)) := by
  rw [tCodeH_apply, v84_apply, v92_apply]
  exact store_code _

/-- The second codes, read as numbers. -/
theorem codeH_code :
    (fun j => ofCode (tCodeH (res_main_v84 V) (res_main_v92 V) (ix4 k t l j)))
      = hc (argsOf V).W ((argsOf V).T k t l) := by
  funext j
  rw [codeH_apply, ofCode_stored]; rfl

/-- The second layer's rows. -/
theorem v115_apply (d : Fin 192) :
    res_main_v115 V (ix4 k t l d) = f (argsOf V).W ((argsOf V).T k t l) d := by
  rw [v115_eq, tFc2_apply, codeH_code, v99_apply]; rfl

/-- The block's rows, channels last. -/
theorem sum_apply (d : Fin 192) :
    addf (res_main_v45 V) (tNorm (res_main_v115 V) (A14 V) (A15 V)) (ix4 k t l d)
      = y (argsOf V).W ((argsOf V).T k t l) d := by
  show @HAdd.hAdd EReal EReal EReal _ (res_main_v45 V (ix4 k t l d))
    (tNorm (res_main_v115 V) (A14 V) (A15 V) (ix4 k t l d)) = _
  rw [v45_apply, tNorm_apply, funext (v115_apply V k t l)]; rfl

end Cert.ReferenceIdeal.Hand

end
-- ==== Proof.RefArrays.lean ====
/-
  The reference's five result arrays: at every index the function of the argument arrays.
-/
module

public import proofs.«01_k».proof.Proof.RefValue

@[expose] public section

set_option maxRecDepth 16384

noncomputable section

namespace Cert.ReferenceIdeal.Hand

open Idealize Idealize.ShloMosaic
open Cert.ReferenceIdeal Cert.ReferenceIdeal.Gen Cert.ReferenceIdeal.Value
open Cert.Mlp

/-- The rows in the layout of the first and second results, channels before longitudes. -/
def tOut (v : FVec Ideal S8x90x360x192 .f32) : FVec Ideal S8x90x192x360 .bf16 :=
  transpose S8x90x192x360 [0, 1, 3, 2] (truncf .bf16 v bitsLt_bf16_f32) transposes_S8x90x360x192_S8x90x192x360_0_1_3_2

/-- The codes in that layout. -/
def tOutCode (v : IVec S8x90x360x192 8) : IVec S8x90x192x360 8 :=
  transpose S8x90x192x360 [0, 1, 3, 2] v transposes_S8x90x360x192_S8x90x192x360_0_1_3_2

/-- The scales, latitudes before levels. -/
def tOutScale (v : FVec Ideal S8x90x360 .f32) : FVec Ideal S90x8x360 .f32 :=
  transpose S90x8x360 [1, 0, 2] v transposes_S8x90x360_S90x8x360_1_0_2

/-- That layout read at an index. -/
theorem tOut_apply (v : FVec Ideal S8x90x360x192 .f32) (k : Fin 8) (t : Fin 90) (d : Fin 192) (l : Fin 360) :
    tOut v (ix4 k t d l) = v (ix4 k t l d) := by
  pointwise [tOut]

/-- That layout read at an index. -/
theorem tOutCode_apply (v : IVec S8x90x360x192 8) (k : Fin 8) (t : Fin 90) (d : Fin 192) (l : Fin 360) :
    tOutCode v (ix4 k t d l) = v (ix4 k t l d) := by
  pointwise [tOutCode]

/-- That layout read at an index. -/
theorem tOutScale_apply (v : FVec Ideal S8x90x360 .f32) (t : Fin 90) (k : Fin 8) (l : Fin 360) :
    tOutScale v (ix3 t k l) = v (ix3 k t l) := by
  pointwise [tOutScale]

variable (V : Valuation τ sig (Elt Ideal))

/-- The block's output. -/
theorem out_y : tOut (addf (res_main_v45 V) (tNorm (res_main_v115 V) (A14 V) (A15 V))) = (argsOf V).rY := by
  funext j
  idx_vars j
  rw [tOut_apply, sum_apply]; rfl

/-- The first codes. -/
theorem out_mc : tOutCode (res_main_v59 V) = (argsOf V).rMc := by
  funext j
  idx_vars j
  rw [tOutCode_apply, v59_apply]; rfl

/-- The first scales. -/
theorem out_ms : tOutScale (res_main_v60 V) = (argsOf V).rMs := by
  funext j
  idx_vars j
  rw [tOutScale_apply, v60_apply]; rfl

/-- The second codes. -/
theorem out_hc : tCodeH (res_main_v84 V) (res_main_v92 V) = (argsOf V).rHc := by
  funext j
  idx_vars j
  rw [codeH_apply]; rfl

/-- The second scales. -/
theorem out_hs : tOutScale (res_main_v99 V) = (argsOf V).rHs := by
  funext j
  idx_vars j
  rw [tOutScale_apply, v99_apply]; rfl

end Cert.ReferenceIdeal.Hand

end
-- ==== Proof.Equation.lean ====
/-
  The two runs side by side: what each program leaves, as the functions of its own arguments, and that equal arguments
  are equal for those functions.
-/
module

public import proofs.«01_k».proof.Proof.Arrays
public import proofs.«01_k».proof.Proof.RefArrays

@[expose] public section

set_option maxRecDepth 16384

noncomputable section

namespace Cert.Proof

open Idealize Idealize.ShloMosaic Idealize.ShloMosaic.TcCoe Idealize.SL.Sem Idealize.ShloMosaic.StableHlo

/-- The kernel leaves its five results as those functions of its arguments, and its arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v23_0) = (Cert.KernelIdeal.Hand.args m c).rY
        ∧ r.2.mem ((c.tc : Thread Cert.KernelIdeal.nD Cert.KernelIdeal.τ).loc Cert.KernelIdeal.main_v23_1) = (Cert.KernelIdeal.Hand.args m c).rMc
        ∧ r.2.mem ((c.tc : Thread Cert.KernelIdeal.nD Cert.KernelIdeal.τ).loc Cert.KernelIdeal.main_v23_2) = (Cert.KernelIdeal.Hand.args m c).rMs
        ∧ r.2.mem ((c.tc : Thread Cert.KernelIdeal.nD Cert.KernelIdeal.τ).loc Cert.KernelIdeal.main_v23_3) = (Cert.KernelIdeal.Hand.args m c).rHc
        ∧ r.2.mem ((c.tc : Thread Cert.KernelIdeal.nD Cert.KernelIdeal.τ).loc Cert.KernelIdeal.main_v23_4) = (Cert.KernelIdeal.Hand.args m c).rHs
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
        ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)) :=
  (θ_run Cert.KernelIdeal.defs _ _).mono (fun _ h c =>
      ⟨(h c).1.trans (Cert.KernelIdeal.Hand.final_16 m c), (h c).2.1.trans (Cert.KernelIdeal.Hand.final_17 m c),
        (h c).2.2.1.trans (Cert.KernelIdeal.Hand.final_18 m c), (h c).2.2.2.1.trans (Cert.KernelIdeal.Hand.final_19 m c),
        (h c).2.2.2.2.1.trans (Cert.KernelIdeal.Hand.final_20 m c), (h c).2.2.2.2.2⟩)
    (Cert.KernelIdeal.Value.run_blocks (F := Ideal) m ρ)

/-- The reference leaves its five results as those functions of its arguments, and its arguments unchanged. -/
theorem reference_run
    (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal))
      (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v142) = (Cert.ReferenceIdeal.Hand.argsOf (launchContents m c)).rY
        ∧ r.2.mem ((c.tc : Thread Cert.ReferenceIdeal.nD Cert.ReferenceIdeal.τ).loc Cert.ReferenceIdeal.main_v143) = (Cert.ReferenceIdeal.Hand.argsOf (launchContents m c)).rMc
        ∧ r.2.mem ((c.tc : Thread Cert.ReferenceIdeal.nD Cert.ReferenceIdeal.τ).loc Cert.ReferenceIdeal.main_v144) = (Cert.ReferenceIdeal.Hand.argsOf (launchContents m c)).rMs
        ∧ r.2.mem ((c.tc : Thread Cert.ReferenceIdeal.nD Cert.ReferenceIdeal.τ).loc Cert.ReferenceIdeal.main_v98) = (Cert.ReferenceIdeal.Hand.argsOf (launchContents m c)).rHc
        ∧ r.2.mem ((c.tc : Thread Cert.ReferenceIdeal.nD Cert.ReferenceIdeal.τ).loc Cert.ReferenceIdeal.main_v145) = (Cert.ReferenceIdeal.Hand.argsOf (launchContents m c)).rHs
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
        ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
        ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)) :=
  (θ_run Cert.ReferenceIdeal.defs _ _).mono (fun _ h c =>
      ⟨(h c).1.trans (Cert.ReferenceIdeal.Hand.out_y (launchContents m c)),
        (h c).2.1.trans (Cert.ReferenceIdeal.Hand.out_mc (launchContents m c)),
        (h c).2.2.1.trans (Cert.ReferenceIdeal.Hand.out_ms (launchContents m c)),
        (h c).2.2.2.1.trans (Cert.ReferenceIdeal.Hand.out_hc (launchContents m c)),
        (h c).2.2.2.2.1.trans (Cert.ReferenceIdeal.Hand.out_hs (launchContents m c)), (h c).2.2.2.2.2⟩)
    (Cert.ReferenceIdeal.Value.run (F := Ideal) m ρ)

/-- Memories that agree on the arguments give the two programs the same arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0)
          = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1)
          = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2)
          = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3)
          = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4)
          = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5)
          = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6)
          = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7)
          = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8)
          = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9)
          = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10)
          = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11)
          = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12)
          = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13)
          = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14)
          = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15)
          = m ((c.tc : Thread Cert.KernelIdeal.nD Cert.KernelIdeal.τ).loc Cert.KernelIdeal.main_arg15)) :
    Cert.ReferenceIdeal.Hand.argsOf (launchContents m' c) = Cert.KernelIdeal.Hand.args m c := by
  unfold Cert.ReferenceIdeal.Hand.argsOf Cert.KernelIdeal.Hand.args
  rw [Cert.Mlp.Args.mk.injEq]
  exact h

end Cert.Proof

end
-- ==== Proof.lean ====
/-
  The proof of the certificate's claim. The kernel's and the reference's frames come from their runs; the two
  idealizations' relation is trivial, since no operation was rewritten; the equation puts the kernel's run and the
  reference's run side by side, each as the same functions of the arguments (`Proof/Equation.lean`).
-/
module

public import proofs.«01_k».proof.Proof.Gen.KernelIdeal.Value
public import proofs.«01_k».proof.Proof.Gen.ReferenceIdeal.Run
public import proofs.«01_k».proof.Proof.Equation
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs, leaves its arguments unchanged, and every semaphore at zero. -/
theorem reference_frame : Cert.quiescent_ReferenceIdeal (hReferenceIdeal := Cert.ReferenceIdeal.Gen.facts) :=
  fun m ρ _ => (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m ρ)

/-- From memories that agree on the arguments, both programs leave the same five results. -/
theorem equation : Cert.algebraic_KernelIdeal_ReferenceIdeal (hKernelIdeal := Cert.KernelIdeal.Gen.facts)
    (hReferenceIdeal := Cert.ReferenceIdeal.Gen.facts) := by
  intro m g m' g' _ hargs
  refine ⟨fun c => (Cert.KernelIdeal.Hand.args m c).rY, fun c => (Cert.KernelIdeal.Hand.args m c).rMc,
    fun c => (Cert.KernelIdeal.Hand.args m c).rMs, fun c => (Cert.KernelIdeal.Hand.args m c).rHc,
    fun c => (Cert.KernelIdeal.Hand.args m c).rHs, kernel_run m g, ?_⟩
  refine (θ_run Cert.ReferenceIdeal.defs _ _).mono (fun r h c => ?_) (reference_run m' g')
  have e := args_eq m m' c (hargs c)
  exact ⟨(h c).1.trans (congrArg Cert.Mlp.Args.rY e),
    (h c).2.1.trans (congrArg Cert.Mlp.Args.rMc e),
    (h c).2.2.1.trans (congrArg Cert.Mlp.Args.rMs e),
    (h c).2.2.2.1.trans (congrArg Cert.Mlp.Args.rHc e),
    (h c).2.2.2.2.1.trans (congrArg Cert.Mlp.Args.rHs e), (h c).2.2.2.2.2⟩

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial,
    equation⟩

end Cert.Proof

end
